-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S512000x24 : Shape := ⟨2, ![512000, 24]⟩
abbrev S1024x128 : Shape := ⟨2, ![1024, 128]⟩
abbrev S1024 : Shape := ⟨1, ![1024]⟩
abbrev S131072x24 : Shape := ⟨2, ![131072, 24]⟩
abbrev S131072x2 : Shape := ⟨2, ![131072, 2]⟩
abbrev S24x32 : Shape := ⟨2, ![24, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S1024x128 : S_.BroadcastsInDim S1024x128 (![] : Fin 0 → Fin S1024x128.rank)
  bcast_S_S1024 : S_.BroadcastsInDim S1024 (![] : Fin 0 → Fin S1024.rank)
  bcast_S_S131072x2 : S_.BroadcastsInDim S131072x2 (![] : Fin 0 → Fin S131072x2.rank)
  bcast_S_S512000x24 : S_.BroadcastsInDim S512000x24 (![] : Fin 0 → Fin S512000x24.rank)
  bcast_S_S24x32 : S_.BroadcastsInDim S24x32 (![] : Fin 0 → Fin S24x32.rank)
  bcast_S_S32 : S_.BroadcastsInDim S32 (![] : Fin 0 → Fin S32.rank)
  bcast_S_S32x2 : S_.BroadcastsInDim S32x2 (![] : Fin 0 → Fin S32x2.rank)
  bcast_S_S2 : S_.BroadcastsInDim S2 (![] : Fin 0 → Fin S2.rank)

variable [Facts]

def fn_part1 {F : FTy → Type} [FloatOps F] (main_arg7 : FVec F S32 .f32) (main_arg8 : FVec F S32x2 .f32) (main_arg9 : FVec F S2 .f32) (main_v4 : IVec S1024x128 1) (main_v6 : IVec S1024 1) (main_v11 : IVec S131072x2 1) (main_v14 : IVec S512000x24 1) (main_v15 : FVec F S24x32 .f32) (main_v16 : FVec F S24x32 .f32) : IVec S1024x128 1 × IVec S1024 1 × IVec S131072x2 1 × IVec S512000x24 1 × IVec S24x32 1 × IVec S32 1 × IVec S32x2 1 × IVec S2 1 :=
  let main_v17 : IVec S24x32 1 := cmpf .olt main_v15 main_v16
  let main_v18 : FVec F S32 .f32 := Host.absf main_arg7
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S32x2 .f32 := Host.absf main_arg8
  let main_cst_6 : FVec F S_ .f32 := constant S_ .f32 0x7F800000#32
  let main_v22 : FVec F S32x2 .f32 := broadcastInDim S32x2 ![] bcast_S_S32x2 main_cst_6
  let main_v23 : IVec S32x2 1 := cmpf .olt main_v21 main_v22
  let main_v24 : FVec F S2 .f32 := Host.absf main_arg9
  let main_cst_7 : FVec F S_ .f32 := constant S_ .f32 0x7F800000#32
  let main_v25 : FVec F S2 .f32 := broadcastInDim S2 ![] bcast_S_S2 main_cst_7
  let main_v26 : IVec S2 1 := cmpf .olt main_v24 main_v25
  (main_v4, main_v6, main_v11, main_v14, main_v17, main_v20, main_v23, main_v26)

def fn {F : FTy → Type} [FloatOps F] (main_arg0 : FVec F S512000x24 .f32) (main_arg1 : FVec F S512000x24 .f32) (main_arg2 : IVec S1024x128 32) (main_arg3 : IVec S1024 32) (main_arg4 : FVec F S131072x24 .f32) (main_arg5 : FVec F S131072x2 .f32) (main_arg6 : FVec F S24x32 .f32) (main_arg7 : FVec F S32 .f32) (main_arg8 : FVec F S32x2 .f32) (main_arg9 : FVec F S2 .f32) : IVec S1024x128 1 × IVec S1024 1 × IVec S131072x2 1 × IVec S512000x24 1 × IVec S24x32 1 × IVec S32 1 × IVec S32x2 1 × IVec S2 1 :=
  let main_c : IVec S_ 32 := constantI S_ 32 0#32
  let main_v0 : IVec S1024x128 32 := broadcastInDim S1024x128 ![] bcast_S_S1024x128 main_c
  let main_v1 : IVec S1024x128 1 := cmpi .sge main_arg2 main_v0
  let main_c_0 : IVec S_ 32 := constantI S_ 32 500#32
  let main_v2 : IVec S1024x128 32 := broadcastInDim S1024x128 ![] bcast_S_S1024x128 main_c_0
  let main_v3 : IVec S1024x128 1 := cmpi .slt main_arg2 main_v2
  let main_v4 : IVec S1024x128 1 := andi main_v1 main_v3
  let main_c_1 : IVec S_ 32 := constantI S_ 32 500#32
  let main_v5 : IVec S1024 32 := broadcastInDim S1024 ![] bcast_S_S1024 main_c_1
  let main_v6 : IVec S1024 1 := cmpi .eq main_arg3 main_v5
  let main_cst : FVec F S_ .f32 := constant S_ .f32 0x00000000#32
  let main_v7 : FVec F S131072x2 .f32 := broadcastInDim S131072x2 ![] bcast_S_S131072x2 main_cst
  let main_v8 : IVec S131072x2 1 := cmpf .ogt main_arg5 main_v7
  let main_cst_2 : FVec F S_ .f32 := constant S_ .f32 0x3F800000#32
  let main_v9 : FVec F S131072x2 .f32 := broadcastInDim S131072x2 ![] bcast_S_S131072x2 main_cst_2
  let main_v10 : IVec S131072x2 1 := cmpf .olt main_arg5 main_v9
  let main_v11 : IVec S131072x2 1 := andi main_v8 main_v10
  let main_v12 : FVec F S512000x24 .f32 := Host.absf main_arg1
  let main_cst_3 : FVec F S_ .f32 := constant S_ .f32 0x7F800000#32
  let main_v13 : FVec F S512000x24 .f32 := broadcastInDim S512000x24 ![] bcast_S_S512000x24 main_cst_3
  let main_v14 : IVec S512000x24 1 := cmpf .olt main_v12 main_v13
  let main_v15 : FVec F S24x32 .f32 := Host.absf main_arg6
  let main_cst_4 : FVec F S_ .f32 := constant S_ .f32 0x7F800000#32
  let main_v16 : FVec F S24x32 .f32 := broadcastInDim S24x32 ![] bcast_S_S24x32 main_cst_4
  fn_part1 (F := F) main_arg7 main_arg8 main_arg9 main_v4 main_v6 main_v11 main_v14 main_v15 main_v16
-- ==== Kernel.lean ====
abbrev S512000x24 : Shape := ⟨2, ![512000, 24]⟩
abbrev S1024x128 : Shape := ⟨2, ![1024, 128]⟩
abbrev S1024 : Shape := ⟨1, ![1024]⟩
abbrev S131072x24 : Shape := ⟨2, ![131072, 24]⟩
abbrev S131072x2 : Shape := ⟨2, ![131072, 2]⟩
abbrev S24x32 : Shape := ⟨2, ![24, 32]⟩
abbrev S32 : Shape := ⟨1, ![32]⟩
abbrev S32x2 : Shape := ⟨2, ![32, 2]⟩
abbrev S2 : Shape := ⟨1, ![2]⟩
abbrev S1024x128x2 : Shape := ⟨3, ![1024, 128, 2]⟩
abbrev S1024x128x1 : Shape := ⟨3, ![1024, 128, 1]⟩
abbrev S32x24 : Shape := ⟨2, ![32, 24]⟩
abbrev S32x1 : Shape := ⟨2, ![32, 1]⟩
abbrev S2x32 : Shape := ⟨2, ![2, 32]⟩
abbrev S1 : Shape := ⟨1, ![1]⟩
abbrev S_ : Shape := ⟨0, ![]⟩
abbrev S1x1 : Shape := ⟨2, ![1, 1]⟩
abbrev S16x128 : Shape := ⟨2, ![16, 128]⟩
abbrev S8000x24 : Shape := ⟨2, ![8000, 24]⟩
abbrev S2048x24 : Shape := ⟨2, ![2048, 24]⟩
abbrev S128x128 : Shape := ⟨2, ![128, 128]⟩
abbrev S500x128 : Shape := ⟨2, ![500, 128]⟩
abbrev S1x128 : Shape := ⟨2, ![1, 128]⟩
abbrev S500x24 : Shape := ⟨2, ![500, 24]⟩
abbrev S24x128 : Shape := ⟨2, ![24, 128]⟩
abbrev S32x128 : Shape := ⟨2, ![32, 128]⟩
abbrev S2x128 : Shape := ⟨2, ![2, 128]⟩
abbrev S128 : Shape := ⟨1, ![128]⟩
abbrev S128x24 : Shape := ⟨2, ![128, 24]⟩
abbrev S500 : Shape := ⟨1, ![500]⟩
abbrev S500x1 : Shape := ⟨2, ![500, 1]⟩

abbrev nBuf : Space → Nat
  | .hbm => 25
  | .vmem => 18
  | .smem => 0
  | _ => 0

abbrev bufTy : (tb : Table) → Fin (tcTables nBuf tb) → BufTy
  | .hbm, ⟨0, _⟩ => ⟨S512000x24, .f32⟩
  | .hbm, ⟨1, _⟩ => ⟨S512000x24, .f32⟩
  | .hbm, ⟨2, _⟩ => ⟨S1024x128, .i32⟩
  | .hbm, ⟨3, _⟩ => ⟨S1024, .i32⟩
  | .hbm, ⟨4, _⟩ => ⟨S131072x24, .f32⟩
  | .hbm, ⟨5, _⟩ => ⟨S131072x2, .f32⟩
  | .hbm, ⟨6, _⟩ => ⟨S24x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1024x128x2, .f32⟩
  | .hbm, ⟨11, _⟩ => ⟨S1024x128x1, .f32⟩
  | .hbm, ⟨12, _⟩ => ⟨S1024x128, .f32⟩
  | .hbm, ⟨13, _⟩ => ⟨S1024x128x1, .f32⟩
  | .hbm, ⟨14, _⟩ => ⟨S1024x128, .f32⟩
  | .hbm, ⟨15, _⟩ => ⟨S32x24, .f32⟩
  | .hbm, ⟨16, _⟩ => ⟨S32x1, .f32⟩
  | .hbm, ⟨17, _⟩ => ⟨S2x32, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S512000x24, .f32⟩
  | .local _ .vmem, ⟨0, _⟩ => ⟨S16x128, .i32⟩
  | .local _ .vmem, ⟨1, _⟩ => ⟨S16x128, .i32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S8000x24, .f32⟩
  | .local _ .vmem, ⟨7, _⟩ => ⟨S8000x24, .f32⟩
  | .local _ .vmem, ⟨8, _⟩ => ⟨S8000x24, .f32⟩
  | .local _ .vmem, ⟨9, _⟩ => ⟨S8000x24, .f32⟩
  | .local _ .vmem, ⟨10, _⟩ => ⟨S2048x24, .f32⟩
  | .local _ .vmem, ⟨11, _⟩ => ⟨S2048x24, .f32⟩
  | .local _ .vmem, ⟨12, _⟩ => ⟨S32x24, .f32⟩
  | .local _ .vmem, ⟨13, _⟩ => ⟨S32x1, .f32⟩
  | .local _ .vmem, ⟨14, _⟩ => ⟨S2x32, .f32⟩
  | .local _ .vmem, ⟨15, _⟩ => ⟨S1x1, .f32⟩
  | .local _ .vmem, ⟨16, _⟩ => ⟨S8000x24, .f32⟩
  | .local _ .vmem, ⟨17, _⟩ => ⟨S8000x24, .f32⟩
  | _, _ => ⟨S512000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x24 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S512000x24 : Shape := ⟨2, ![512000, 24]⟩
abbrev S1024x128 : Shape := ⟨2, ![1024, 128]⟩
abbrev S1024 : Shape := ⟨1, ![1024]⟩
abbrev S131072x24 : Shape := ⟨2, ![131072, 24]⟩
abbrev S131072x2 : Shape := ⟨2, ![131072, 2]⟩
abbrev S24x32 : Shape := ⟨2, ![24, 32]⟩
abbrev S32 : Shape := ⟨1, ![32]⟩
abbrev S32x2 : Shape := ⟨2, ![32, 2]⟩
abbrev S2 : Shape := ⟨1, ![2]⟩
abbrev S1024x500x24 : Shape := ⟨3, ![1024, 500, 24]⟩
abbrev S1024x128x1 : Shape := ⟨3, ![1024, 128, 1]⟩
abbrev S_ : Shape := ⟨0, ![]⟩
abbrev S1 : Shape := ⟨1, ![1]⟩
abbrev S1x1x1 : Shape := ⟨3, ![1, 1, 1]⟩
abbrev S1024x128x24 : Shape := ⟨3, ![1024, 128, 24]⟩
abbrev S131072x24x1 : Shape := ⟨3, ![131072, 24, 1]⟩
abbrev S131072x24x2 : Shape := ⟨3, ![131072, 24, 2]⟩
abbrev S131072x32 : Shape := ⟨2, ![131072, 32]⟩
abbrev S1x32 : Shape := ⟨2, ![1, 32]⟩
abbrev S1x2 : Shape := ⟨2, ![1, 2]⟩
abbrev S131072 : Shape := ⟨1, ![131072]⟩
abbrev S131072x1 : Shape := ⟨2, ![131072, 1]⟩
abbrev S1025 : Shape := ⟨1, ![1025]⟩
abbrev S131072x1x2 : Shape := ⟨3, ![131072, 1, 2]⟩

abbrev nBuf : Space → Nat
  | .hbm => 116
  | .vmem => 0
  | .smem => 0
  | _ => 0

abbrev bufTy : (tb : Table) → Fin (tcTables nBuf tb) → BufTy
  | .hbm, ⟨0, _⟩ => ⟨S512000x24, .f32⟩
  | .hbm, ⟨1, _⟩ => ⟨S512000x24, .f32⟩
  | .hbm, ⟨2, _⟩ => ⟨S1024x128, .i32⟩
  | .hbm, ⟨3, _⟩ => ⟨S1024, .i32⟩
  | .hbm, ⟨4, _⟩ => ⟨S131072x24, .f32⟩
  | .hbm, ⟨5, _⟩ => ⟨S131072x2, .f32⟩
  | .hbm, ⟨6, _⟩ => ⟨S24x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1024x500x24, .f32⟩
  | .hbm, ⟨11, _⟩ => ⟨S1024x128x1, .i32⟩
  | .hbm, ⟨12, _⟩ => ⟨S_, .i32⟩
  | .hbm, ⟨13, _⟩ => ⟨S1024x128x1, .i32⟩
  | .hbm, ⟨14, _⟩ => ⟨S1024x128x1, .i1⟩
  | .hbm, ⟨15, _⟩ => ⟨S_, .i32⟩
  | .hbm, ⟨16, _⟩ => ⟨S1024x128x1, .i32⟩
  | .hbm, ⟨17, _⟩ => ⟨S1024x128x1, .i32⟩
  | .hbm, ⟨18, _⟩ => ⟨S1024x128x1, .i32⟩
  | .hbm, ⟨19, _⟩ => ⟨S1, .i32⟩
  | .hbm, ⟨20, _⟩ => ⟨S_, .i32⟩
  | .hbm, ⟨21, _⟩ => ⟨S1024x128x1, .i32⟩
  | .hbm, ⟨22, _⟩ => ⟨S1024x128x1, .i1⟩
  | .hbm, ⟨23, _⟩ => ⟨S1x1x1, .i32⟩
  | .hbm, ⟨24, _⟩ => ⟨S1024x128x1, .i32⟩
  | .hbm, ⟨25, _⟩ => ⟨S1024x128x1, .i1⟩
  | .hbm, ⟨26, _⟩ => ⟨S1024x128x1, .i1⟩
  | .hbm, ⟨27, _⟩ => ⟨S_, .i1⟩
  | .hbm, ⟨28, _⟩ => ⟨S1024x128, .i1⟩
  | .hbm, ⟨29, _⟩ => ⟨S1024x128x24, .f32⟩
  | .hbm, ⟨30, _⟩ => ⟨S1024x128x24, .i1⟩
  | .hbm, ⟨31, _⟩ => ⟨S_, .f32⟩
  | .hbm, ⟨32, _⟩ => ⟨S1024x128x24, .f32⟩
  | .hbm, ⟨33, _⟩ => ⟨S1024x128x24, .f32⟩
  | .hbm, ⟨34, _⟩ => ⟨S131072x24, .f32⟩
  | .hbm, ⟨35, _⟩ => ⟨S_, .f32⟩
  | .hbm, ⟨36, _⟩ => ⟨S131072x24, .f32⟩
  | .hbm, ⟨37, _⟩ => ⟨S131072x24, .i1⟩
  | .hbm, ⟨38, _⟩ => ⟨S131072x24, .f32⟩
  | .hbm, ⟨39, _⟩ => ⟨S_, .f32⟩
  | .hbm, ⟨40, _⟩ => ⟨S131072x24, .f32⟩
  | .hbm, ⟨41, _⟩ => ⟨S131072x24x1, .f32⟩
  | .hbm, ⟨42, _⟩ => ⟨S131072x24, .f32⟩
  | .hbm, ⟨43, _⟩ => ⟨S131072x24x1, .f32⟩
  | .hbm, ⟨44, _⟩ => ⟨S131072x24x2, .f32⟩
  | .hbm, ⟨45, _⟩ => ⟨S131072x32, .f32⟩
  | .hbm, ⟨46, _⟩ => ⟨S1x32, .f32⟩
  | .hbm, ⟨47, _⟩ => ⟨S131072x32, .f32⟩
  | .hbm, ⟨48, _⟩ => ⟨S131072x32, .f32⟩
  | .hbm, ⟨49, _⟩ => ⟨S_, .f32⟩
  | .hbm, ⟨50, _⟩ => ⟨S131072x32, .f32⟩
  | .hbm, ⟨51, _⟩ => ⟨S131072x32, .f32⟩
  | .hbm, ⟨52, _⟩ => ⟨S131072x2, .f32⟩
  | .hbm, ⟨53, _⟩ => ⟨S1x2, .f32⟩
  | .hbm, ⟨54, _⟩ => ⟨S131072x2, .f32⟩
  | .hbm, ⟨55, _⟩ => ⟨S131072x2, .f32⟩
  | .hbm, ⟨56, _⟩ => ⟨S131072x2, .f32⟩
  | .hbm, ⟨57, _⟩ => ⟨S131072x2, .f32⟩
  | .hbm, ⟨58, _⟩ => ⟨S131072x2, .f32⟩
  | .hbm, ⟨59, _⟩ => ⟨S131072x2, .f32⟩
  | .hbm, ⟨60, _⟩ => ⟨S131072x2, .f32⟩
  | .hbm, ⟨61, _⟩ => ⟨S_, .f32⟩
  | .hbm, ⟨62, _⟩ => ⟨S131072x2, .f32⟩
  | .hbm, ⟨63, _⟩ => ⟨S131072x2, .f32⟩
  | .hbm, ⟨64, _⟩ => ⟨S_, .f32⟩
  | .hbm, ⟨65, _⟩ => ⟨S131072, .f32⟩
  | .hbm, ⟨66, _⟩ => ⟨S_, .f32⟩
  | .hbm, ⟨67, _⟩ => ⟨S131072, .f32⟩
  | .hbm, ⟨68, _⟩ => ⟨S131072, .f32⟩
  | .hbm, ⟨69, _⟩ => ⟨S131072x1, .f32⟩
  | .hbm, ⟨70, _⟩ => ⟨S131072x2, .f32⟩
  | .hbm, ⟨71, _⟩ => ⟨S131072x2, .f32⟩
  | .hbm, ⟨72, _⟩ => ⟨S131072x2, .f32⟩
  | .hbm, ⟨73, _⟩ => ⟨S_, .f32⟩
  | .hbm, ⟨74, _⟩ => ⟨S131072, .f32⟩
  | .hbm, ⟨75, _⟩ => ⟨S131072x1, .f32⟩
  | .hbm, ⟨76, _⟩ => ⟨S131072x2, .f32⟩
  | .hbm, ⟨77, _⟩ => ⟨S131072x2, .f32⟩
  | .hbm, ⟨78, _⟩ => ⟨S131072x2, .i32⟩
  | .hbm, ⟨79, _⟩ => ⟨S_, .f32⟩
  | .hbm, ⟨80, _⟩ => ⟨S_, .i32⟩
  | .hbm, ⟨81, _⟩ => ⟨S131072, .f32⟩
  | .hbm, ⟨82, _⟩ => ⟨S131072, .i32⟩
  | .hbm, ⟨83, _⟩ => ⟨S131072x1, .i32⟩
  | .hbm, ⟨84, _⟩ => ⟨S1x2, .i32⟩
  | .hbm, ⟨85, _⟩ => ⟨S131072x2, .i32⟩
  | .hbm, ⟨86, _⟩ => ⟨S131072x2, .i32⟩
  | .hbm, ⟨87, _⟩ => ⟨S131072x2, .i1⟩
  | .hbm, ⟨88, _⟩ => ⟨S131072x2, .f32⟩
  | .hbm, ⟨89, _⟩ => ⟨S131072x2, .f32⟩
  | .hbm, ⟨90, _⟩ => ⟨S131072x2, .f32⟩
  | .hbm, ⟨91, _⟩ => ⟨S_, .i32⟩
  | .hbm, ⟨92, _⟩ => ⟨S1, .i32⟩
  | .hbm, ⟨93, _⟩ => ⟨S1025, .i32⟩
  | .hbm, ⟨94, _⟩ => ⟨S1024, .i32⟩
  | .hbm, ⟨95, _⟩ => ⟨S_, .i32⟩
  | .hbm, ⟨96, _⟩ => ⟨S_, .i32⟩
  | .hbm, ⟨97, _⟩ => ⟨S1024, .i32⟩
  | .hbm, ⟨98, _⟩ => ⟨S1024x128, .i32⟩
  | .hbm, ⟨99, _⟩ => ⟨S131072, .i32⟩
  | .hbm, ⟨100, _⟩ => ⟨S131072, .i32⟩
  | .hbm, ⟨101, _⟩ => ⟨S131072, .i32⟩
  | .hbm, ⟨102, _⟩ => ⟨S131072x1x2, .f32⟩
  | .hbm, ⟨103, _⟩ => ⟨S131072x24x2, .f32⟩
  | .hbm, ⟨104, _⟩ => ⟨S131072x24x2, .f32⟩
  | .hbm, ⟨105, _⟩ => ⟨S_, .f32⟩
  | .hbm, ⟨106, _⟩ => ⟨S131072x24, .f32⟩
  | .hbm, ⟨107, _⟩ => ⟨S_, .i32⟩
  | .hbm, ⟨108, _⟩ => ⟨S131072, .i32⟩
  | .hbm, ⟨109, _⟩ => ⟨S131072, .i1⟩
  | .hbm, ⟨110, _⟩ => ⟨S_, .i32⟩
  | .hbm, ⟨111, _⟩ => ⟨S131072, .i32⟩
  | .hbm, ⟨112, _⟩ => ⟨S131072, .i32⟩
  | .hbm, ⟨113, _⟩ => ⟨S131072, .i32⟩
  | .hbm, ⟨114, _⟩ => ⟨S131072x1, .i32⟩
  | .hbm, ⟨115, _⟩ => ⟨S512000x24, .f32⟩
  | _, _ => ⟨S512000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_call1_cst : Ref sig .tc := ⟨.hbm, 49, rfl⟩
abbrev main_call1_v0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_1 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_4 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v39 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_c : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_call4_call0_c : Ref sig .tc := ⟨.hbm, 95, rfl⟩
abbrev main_call4_call0_v0 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_5 : Ref sig .tc := ⟨.hbm, 105, rfl⟩
abbrev main_v54 : Ref sig .tc := ⟨.hbm, 106, rfl⟩
abbrev main_c_6 : Ref sig .tc := ⟨.hbm, 107, rfl⟩
abbrev main_v55 : Ref sig .tc := ⟨.hbm, 108, rfl⟩
abbrev main_v56 : Ref sig .tc := ⟨.hbm, 109, rfl⟩
abbrev main_c_7 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩

abbrev nD : Nat := 1
abbrev τ : Topo := Topo.v7x

variable {F : FTy → Type} [FloatOps F]
-- ==== Proof.Block.lean ====
/- What the kernel's body does for one group of 500 nodes, as a function of the group's blocks, and that its output
   buffer is sixteen such groups, one under the other. -/
module

public import proofs.«01_k».proof.Proof.Gen.KernelIdeal.Value
public import Idealize.ShloMosaic.Lib.Pipeline.ValueKit.Tiles

@[expose] public section

noncomputable section

namespace Cert.Block

open Cert.KernelIdeal Cert.KernelIdeal.Gen Idealize.ShloMosaic Idealize.SL.Sem

variable {F : FTy → Type} [FloatOps F]

/-- Every row of a 16 by 128 array is a slice of it. -/
theorem row_slices : ∀ g : Fin 16, S16x128.Slices ![g.val, 0] S1x128 := by decide

/-- The 500 rows of group `g` lie inside a block of 8000 rows. -/
theorem rows_inb : ∀ (g : Fin 16) (a : Fin 2), (![500 * g.val, 0] : Fin 2 → Nat) a + S500x24.size a ≤ S8000x24.size a := by decide

/-- The 128 mask rows of group `g` lie inside a block of 2048 rows. -/
theorem mask_inb : ∀ (g : Fin 16) (a : Fin 2), (![128 * g.val, 0] : Fin 2 → Nat) a + S128x24.size a ≤ S2048x24.size a := by decide

/-- Entry (n, k) is one where sample `k` of group `g` names node `n`, zero elsewhere. -/
def oneHot (mp : IVec S16x128 32) (g : Fin 16) : FVec F S500x128 .f32 :=
  sitofp .f32 (extui 32 (cmpi .eq (iota .tc S500x128 32 [0] iota_S500x128_d0_w32)
    (broadcastTo S500x128 (extractStridedSlice S1x128 ![g.val, 0] mp (row_slices g)) broadcasts_S1x128_S500x128)) natLt_1_32)

/-- The hidden layer of the group: the sampled rows of `y` through the first matrix, its bias, and a cut at zero. -/
def hidden (oh : FVec F S500x128 .f32) (y : FVec F S500x24 .f32) (w1 : FVec F S32x24 .f32) (b1 : FVec F S32x1 .f32) :
    FVec F S32x128 .f32 :=
  maximumf (addf (matmul dot_S32x24_S24x128_S32x128_1_0_0_1_n_n none (shapeCast S32x24 w1 shapeCasts_S32x24_S32x24)
      (matmul dot_S500x24_S500x128_S24x128_0_0_1_1_n_n none y oh (constant S24x128 .f32 0x00000000#32))
      (constant S32x128 .f32 0x00000000#32))
    (broadcastTo S32x128 (shapeCast S32x1 b1 shapeCasts_S32x1_S32x1) broadcasts_S32x1_S32x128))
    (broadcast S32x128 (Scalar.ofBits .f32 0x00000000#32))

/-- Both logits of every sample, before the bias. -/
def scores (h : FVec F S32x128 .f32) (w2 : FVec F S2x32 .f32) : FVec F S2x128 .f32 :=
  matmul dot_S2x32_S32x128_S2x128_1_0_0_1_n_n none (shapeCast S2x32 w2 shapeCasts_S2x32_S2x32) h (constant S2x128 .f32 0x00000000#32)

/-- The second logit less the first, the bias' difference added. -/
def margin (s : FVec F S2x128 .f32) (b2 : FVec F S1x1 .f32) : FVec F S1x128 .f32 :=
  addf (subf (extractStridedSlice S1x128 ![1, 0] s slices_S2x128_o1_0_S1x128)
      (extractStridedSlice S1x128 ![0, 0] s slices_S2x128_o0_0_S1x128))
    (broadcastTo S1x128 (shapeCast S1x1 b2 shapeCasts_S1x1_S1x1) broadcasts_S1x1_S1x128)

/-- One for the samples whose margin exceeds the threshold of group `g`, zero for the others. -/
def selected (d : FVec F S1x128 .f32) (thr : FVec F S16x128 .f32) (g : Fin 16) : FVec F S1x128 .bf16 :=
  truncf .bf16 (select (cmpf .ogt d (extractStridedSlice S1x128 ![g.val, 0] thr (row_slices g)))
    (broadcast S1x128 (Scalar.ofBits .f32 0x3F800000#32)) (broadcast S1x128 (Scalar.ofBits .f32 0x00000000#32))) bitsLt_bf16_f32

/-- The one-hot array with only the last sample of each node left. -/
def winners (tri : FVec F S128x128 .f32) (oh : FVec F S500x128 .bf16) : FVec F S500x128 .bf16 :=
  mulf oh (broadcastTo S500x128 (subf (broadcast S1x128 (Scalar.ofBits .bf16 0x3F80#16))
    (truncf .bf16 (shapeCast S1x128 (multiReduction .maximumf [0] S128
      (mulf (matmul dot_S500x128_S500x128_S128x128_0_0_1_1_n_n none oh oh (constant S128x128 .f32 0x00000000#32)) tri)
      0xFF800000#32 reduces_S128x128_S128 (.inl rfl) rfl) shapeCasts_S128_S1x128) bitsLt_bf16_f32)) broadcasts_S1x128_S500x128)

/-- One where the mask exceeds a tenth, zero elsewhere. -/
def kept (mu : FVec F S128x24 .f32) : FVec F S128x24 .bf16 :=
  truncf .bf16 (select (cmpf .ogt mu (broadcast S128x24 (Scalar.ofBits .f32 0x3DCCCCCD#32)))
    (broadcast S128x24 (Scalar.ofBits .f32 0x3F800000#32)) (broadcast S128x24 (Scalar.ofBits .f32 0x00000000#32))) bitsLt_bf16_f32

/-- What multiplies `y`: one where the node's winner is selected and its mask kept. -/
def weight (ew : FVec F S500x128 .bf16) (sel : FVec F S1x128 .bf16) (kp : FVec F S128x24 .bf16) : FVec F S500x24 .f32 :=
  matmul dot_S500x128_S128x24_S500x24_1_0_0_1_n_n none
    (mulf ew (broadcastTo S500x128 sel broadcasts_S1x128_S500x128)) kp (constant S500x24 .f32 0x00000000#32)

/-- Which nodes have a winner. -/
def hit (ew : FVec F S500x128 .bf16) : IVec S500x1 1 :=
  cmpf .ogt (shapeCast S500x1 (multiReduction .maximumf [1] S500 (extf .f32 ew bitsLt_bf16_f32) 0xFF800000#32
      reduces_S500x128_S500 (.inl rfl) rfl) shapeCasts_S500_S500x1)
    (broadcast S500x1 (Scalar.ofBits .f32 0x00000000#32))

/-- The rows with a winner replaced, the others as they were. -/
def replaced (ht : IVec S500x1 1) (w y x : FVec F S500x24 .f32) : FVec F S500x24 .f32 :=
  select (broadcastTo S500x24 (shapeCast S500x1 ht shapeCasts_S500x1_S500x1) broadcasts_S500x1_S500x24) (mulf w y) x

/-- What the body stores for group `g`. -/
def blockOut (g : Fin 16) (mp : IVec S16x128 32) (thr : FVec F S16x128 .f32) (tri : FVec F S128x128 .f32)
    (x y : FVec F S500x24 .f32) (mu : FVec F S128x24 .f32) (w1 : FVec F S32x24 .f32) (b1 : FVec F S32x1 .f32)
    (w2 : FVec F S2x32 .f32) (b2 : FVec F S1x1 .f32) : FVec F S500x24 .f32 :=
  let oh := oneHot mp g
  let ew := winners tri (truncf .bf16 oh bitsLt_bf16_f32)
  replaced (hit ew) (weight ew (selected (margin (scores (hidden oh y w1 b1) w2) b2) thr g) (kept mu)) y x

/-- The rectangle of group `g`'s 500 rows. -/
abbrev rows (g : Fin 16) : Rect S8000x24 := Rect.unit (s := S8000x24) ![500 * g.val, 0] S500x24.size (rows_inb g)

/-- The rectangle of group `g`'s 128 mask rows. -/
abbrev maskRows (g : Fin 16) : Rect S2048x24 := Rect.unit (s := S2048x24) ![128 * g.val, 0] S128x24.size (mask_inb g)

/-- The body's output buffer is the sixteen groups' stores. -/
theorem out_eq (x0 : Vec F S16x128 .i32) (x1 x2 : Vec F S16x128 .f32) (x3 x4 : Vec F S8000x24 .f32) (x5 : Vec F S2048x24 .f32)
    (x6 : Vec F S32x24 .f32) (x7 : Vec F S32x1 .f32) (x8 : Vec F S2x32 .f32) (x9 : Vec F S1x1 .f32) :
    out0_10 x0 x1 x2 x3 x4 x5 x6 x7 x8 x9 = View.canon (List.ofFn fun k : Fin 16 =>
      (⟨rows k.rev, blockOut k.rev (View.ld x0 r0_0) (k0_pay2 (View.ld x1 r0_0) (View.ld x2 r0_0)) k0_pay3
        (View.ld x3 (rows k.rev)) (View.ld x4 (rows k.rev)) (View.ld x5 (maskRows k.rev)) (View.ld x6 r0_2) (View.ld x7 r0_3)
        (View.ld x8 r0_4) (View.ld x9 r0_5)⟩ : View.Piece (Elt F) S8000x24 .f32)) := by
  unfold_out out0_10
  rfl

end Cert.Block

end
-- ==== Proof.Spec.lean ====
/- What kernel and reference both compute, said once: which samples of a group are the last of their node, the real
   scores of a sampled row, and a sum, a largest entry over a one-hot row. -/
module

public import Mathlib.Analysis.SpecialFunctions.Log.Basic
public import Mathlib.Data.EReal.Operations
public import Idealize.ShloMosaic.PureOps.Ideal.Laws

@[expose] public section

noncomputable section

namespace Cert.Spec

open Idealize.ShloMosaic

/-- Sample `k` names node `n` and no later sample of the group does. -/
def Last (m : Fin 128 → BitVec 32) (n : ℕ) (k : Fin 128) : Prop :=
  m k = BitVec.ofNat 32 n ∧ ∀ i, k < i → m i ≠ BitVec.ofNat 32 n

/-- A node has at most one last sample. -/
theorem Last.unique {m : Fin 128 → BitVec 32} {n : ℕ} {k k' : Fin 128} (h : Last m n k) (h' : Last m n k') : k = k' := by
  rcases lt_trichotomy k k' with hlt | heq | hgt
  · exact absurd h'.1 (h.2 _ hlt)
  · exact heq
  · exact absurd h.1 (h'.2 _ hgt)

/-- A node with a sample has a last one. -/
theorem Last.exists_of {m : Fin 128 → BitVec 32} {n : ℕ} (h : ∃ k, m k = BitVec.ofNat 32 n) : ∃ k, Last m n k := by
  classical
  obtain ⟨k, hk⟩ := h
  have hne : (Finset.univ.filter fun k => m k = BitVec.ofNat 32 n).Nonempty := ⟨k, by simpa using hk⟩
  refine ⟨_, (Finset.mem_filter.mp (Finset.max'_mem _ hne)).2, fun i hi hmi => ?_⟩
  exact absurd (Finset.le_max' _ i (by simpa using hmi)) (not_le.mpr hi)

/-- Node numbers below 500 are distinct as words. -/
theorem ofNat_inj {a b : ℕ} (ha : a < 500) (hb : b < 500) (h : BitVec.ofNat 32 a = BitVec.ofNat 32 b) : a = b := by
  have := congrArg BitVec.toNat h
  simp only [BitVec.toNat_ofNat] at this
  omega

/-- The hidden unit `j` of a row. -/
def hid (row : Fin 24 → ℝ) (w1 : Fin 24 → Fin 32 → ℝ) (b1 : Fin 32 → ℝ) (j : Fin 32) : ℝ :=
  max (∑ s, row s * w1 s j + b1 j) 0

/-- The row's logit `o`. -/
def score (row : Fin 24 → ℝ) (w1 : Fin 24 → Fin 32 → ℝ) (b1 : Fin 32 → ℝ) (w2 : Fin 32 → Fin 2 → ℝ) (b2 : Fin 2 → ℝ) (o : Fin 2) : ℝ :=
  ∑ j, hid row w1 b1 j * w2 j o + b2 o

/-- The noise of a uniform number. -/
def noise (u : ℝ) : ℝ := -Real.log (-Real.log u)

/-- The second noisy logit exceeds the first. -/
def Chosen (row : Fin 24 → ℝ) (w1 : Fin 24 → Fin 32 → ℝ) (b1 : Fin 32 → ℝ) (w2 : Fin 32 → Fin 2 → ℝ) (b2 : Fin 2 → ℝ)
    (u : Fin 2 → ℝ) : Prop :=
  score row w1 b1 w2 b2 0 + noise (u 0) < score row w1 b1 w2 b2 1 + noise (u 1)

/-- The mask's threshold, a tenth as the programs print it. -/
def tenth : EReal := Ideal.ofBits .f32 0x3DCCCCCD#32

/-- A sum against an indicator that holds at one index only is the term there. -/
theorem sum_indicator {ι : Type*} [Fintype ι] (f : ι → EReal) (p : ι → Prop) [DecidablePred p] (i : ι) (hi : p i)
    (hu : ∀ j, p j → j = i) : (∑ j, f j * if p j then 1 else 0) = f i := by
  rw [Finset.sum_eq_single i]
  · rw [if_pos hi, mul_one]
  · intro j _ hj
    rw [if_neg (fun h => hj (hu j h)), mul_zero]
  · intro h; exact absurd (Finset.mem_univ i) h

/-- The largest entry of a row of zeros and ones. -/
theorem fold_max_indicator {n : ℕ} (p : Fin (n + 1) → Prop) [DecidablePred p] [Decidable (∃ i, p i)] :
    (Finset.univ : Finset (Fin (n + 1))).fold max (⊥ : EReal) (fun i => if p i then 1 else 0) = if ∃ i, p i then 1 else 0 := by
  apply le_antisymm
  · rw [Finset.fold_max_le]
    refine ⟨bot_le, fun i _ => ?_⟩
    by_cases h : p i
    · rw [if_pos h, if_pos ⟨i, h⟩]
    · rw [if_neg h]; split_ifs
      · exact zero_le_one
      · exact le_refl _
  · rw [Finset.le_fold_max]
    right
    split_ifs with h
    · obtain ⟨i, hi⟩ := h
      exact ⟨i, Finset.mem_univ _, by rw [if_pos hi]⟩
    · exact ⟨0, Finset.mem_univ _, by rw [if_neg (fun h0 => h ⟨0, h0⟩)]⟩

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read among the extended reals. -/
theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

/-- The row of node `n` of group `b`. -/
def nodeRow (b : Fin 1024) (n : Fin 500) : Fin 512000 := ⟨500 * b.val + n.val, by omega⟩

/-- The row of sample `k` of group `b`. -/
def sampleRow (b : Fin 1024) (k : Fin 128) : Fin 131072 := ⟨128 * b.val + k.val, by omega⟩

/-- Every row is some node of some group. -/
theorem exists_nodeRow (r : Fin 512000) : ∃ b n, r = nodeRow b n :=
  ⟨⟨r.val / 500, by omega⟩, ⟨r.val % 500, by omega⟩, Fin.ext (by show r.val = 500 * (r.val / 500) + r.val % 500; omega)⟩

/-- The real numbers that the float arguments hold. -/
structure Reals where
  /-- the candidate rows -/
  y : Fin 512000 → Fin 24 → ℝ
  /-- the uniform numbers of each sample -/
  u : Fin 131072 → Fin 2 → ℝ
  /-- the first layer's weights -/
  w1 : Fin 24 → Fin 32 → ℝ
  /-- the first layer's bias -/
  b1 : Fin 32 → ℝ
  /-- the second layer's weights -/
  w2 : Fin 32 → Fin 2 → ℝ
  /-- the second layer's bias -/
  b2 : Fin 2 → ℝ

/-- The argument arrays hold the reals `p`, and the uniform numbers lie between zero and one. -/
structure Reads (y : Fin 512000 → Fin 24 → EReal) (u : Fin 131072 → Fin 2 → EReal) (w1 : Fin 24 → Fin 32 → EReal)
    (b1 : Fin 32 → EReal) (w2 : Fin 32 → Fin 2 → EReal) (b2 : Fin 2 → EReal) (p : Reals) : Prop where
  y : ∀ r s, y r s = (p.y r s : EReal)
  u : ∀ r o, u r o = (p.u r o : EReal)
  u_pos : ∀ r o, 0 < p.u r o
  u_lt : ∀ r o, p.u r o < 1
  w1 : ∀ s j, w1 s j = (p.w1 s j : EReal)
  b1 : ∀ j, b1 j = (p.b1 j : EReal)
  w2 : ∀ j o, w2 j o = (p.w2 j o : EReal)
  b2 : ∀ o, b2 o = (p.b2 o : EReal)

open Classical in
/-- What the result holds: a row of a node that no sample names is `x`'s, and the row of a node whose last sample is `k` is
    `y`'s where the sample is chosen and its mask kept, zero elsewhere. -/
def Out (p : Reals) (mp : Fin 1024 → Fin 128 → BitVec 32) (x : Fin 512000 → Fin 24 → EReal) (mu : Fin 131072 → Fin 24 → EReal)
    (out : Fin 512000 → Fin 24 → EReal) : Prop :=
  ∀ b n t, ((∀ k, mp b k ≠ BitVec.ofNat 32 n.val) → out (nodeRow b n) t = x (nodeRow b n) t)
    ∧ ∀ k, Last (mp b) n.val k → out (nodeRow b n) t
      = if Chosen (p.y (nodeRow b n)) p.w1 p.b1 p.w2 p.b2 (p.u (sampleRow b k)) ∧ tenth < mu (sampleRow b k) t
        then (p.y (nodeRow b n) t : EReal) else 0

/-- The result is determined. -/
theorem Out.unique {p : Reals} {mp : Fin 1024 → Fin 128 → BitVec 32} {x : Fin 512000 → Fin 24 → EReal}
    {mu : Fin 131072 → Fin 24 → EReal} {o o' : Fin 512000 → Fin 24 → EReal} (h : Out p mp x mu o) (h' : Out p mp x mu o')
    (r : Fin 512000) (t : Fin 24) : o r t = o' r t := by
  obtain ⟨b, n, rfl⟩ := exists_nodeRow r
  by_cases hk : ∃ k, mp b k = BitVec.ofNat 32 n.val
  · obtain ⟨k, hl⟩ := Last.exists_of hk
    exact ((h b n t).2 k hl).trans ((h' b n t).2 k hl).symm
  · have hn : ∀ k, mp b k ≠ BitVec.ofNat 32 n.val := fun k e => hk ⟨k, e⟩
    exact ((h b n t).1 hn).trans ((h' b n t).1 hn).symm

end Cert.Spec

end
-- ==== Proof.BlockValue.lean ====
/- What the body stores for one group, entry by entry, at the ideal values. -/
module

public import proofs.«01_k».proof.Proof.Block
public import proofs.«01_k».proof.Proof.Spec
public import Idealize.ShloMosaic.Lib.Pointwise

@[expose] public section

noncomputable section

namespace Cert.BlockValue

open Cert.KernelIdeal Cert.KernelIdeal.Gen Cert.Block Cert.Spec Idealize.ShloMosaic

/-- An `i1` widened to a word and read as a number is one or zero. -/
theorem sitofp_bit (φ : FTy) (b : Bool) :
    (FloatOps.sitofp φ (BitVec.setWidth 32 (BitVec.ofBool b)) : Ideal φ) = if b = true then 1 else 0 := by
  cases b
  · show (((0#32 : BitVec 32).toInt : ℝ) : EReal) = _
    simp
  · show (((1#32 : BitVec 32).toInt : ℝ) : EReal) = _
    simp

/-- The one-hot array at an entry. -/
theorem oneHot_apply (mp : IVec S16x128 32) (g : Fin 16) (n : Fin 500) (k : Fin 128) :
    oneHot (F := Ideal) mp g (ix2 n k) = if mp (ix2 g k) = BitVec.ofNat 32 n.val then 1 else 0 := by
  unfold oneHot
  simp only [pointwise]
  have e1 : List.foldl (fun (m : ℕ) (a : Fin 2) => m * ![500, 128] a + (ix2 n k a).val) 0 [0] = n.val := by
    simp [ix2]
  have e2 : (ix2 (n0 := 16) (n1 := 128) ⟨(![g.val, 0] : Fin 2 → ℕ) 0 + 0, (by show g.val + 0 < 16; omega)⟩
      ⟨(![g.val, 0] : Fin 2 → ℕ) 1 + (if h1 : 128 = 1 then 0 else k).val, (by show 0 + k.val < 128; omega)⟩) = ix2 g k := by
    apply Shape.idx_ext₂
    · show g.val + 0 = g.val; omega
    · show 0 + k.val = k.val; omega
  erw [e1, e2]
  show FloatOps.sitofp (F := Ideal) .f32 (BitVec.setWidth 32 (BitVec.ofBool (BitVec.ofNat 32 n.val == mp (ix2 g k)))) = _
  rw [sitofp_bit]
  by_cases h : mp (ix2 g k) = BitVec.ofNat 32 n.val
  · rw [if_pos h, if_pos (by rw [h]; simp)]
  · rw [if_neg h, if_neg (by simp only [beq_iff_eq]; exact fun h' => h h'.symm)]

/-- The strictly lower triangle at an entry. -/
theorem tri_apply (i j : Fin 128) : k0_pay3 (F := Ideal) (ix2 i j) = if j < i then 1 else 0 := by
  unfold k0_pay3
  simp only [pointwise]
  have e0 : List.foldl (fun (m : ℕ) (a : Fin 2) => m * ![128, 128] a + (ix2 i j a).val) 0 [0] = i.val := by
    simp [ix2]
  have e1 : List.foldl (fun (m : ℕ) (a : Fin 2) => m * ![128, 128] a + (ix2 i j a).val) 0 [1] = j.val := by
    simp [ix2]
  erw [e0, e1]
  show FloatOps.sitofp (F := Ideal) .f32 (BitVec.setWidth 32 (BitVec.ofBool ((BitVec.ofNat 32 j.val).slt (BitVec.ofNat 32 i.val)))) = _
  rw [sitofp_bit]
  have hi := i.isLt
  have hj := j.isLt
  have h : (BitVec.ofNat 32 j.val).slt (BitVec.ofNat 32 i.val) = decide (j < i) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    exact decide_eq_decide.mpr (by rw [Fin.lt_def]; omega)
  rw [h]
  by_cases hlt : j < i <;> simp [hlt]

section Winners
variable (oh : FVec Ideal S500x128 .f32) (m : Fin 128 → BitVec 32)
  (hoh : ∀ (n : Fin 500) k, oh (ix2 n k) = if m k = BitVec.ofNat 32 n.val then 1 else 0)
include hoh

/-- Two samples' one-hot columns agree in one place exactly when the samples name one node. -/
theorem agree_apply (n : Fin 500) (i k : Fin 128) (hk : m k = BitVec.ofNat 32 n.val) :
    (∑ n', oh (ix2 n' i) * oh (ix2 n' k)) = if m i = BitVec.ofNat 32 n.val then 1 else 0 := by
  rw [← hoh n i]
  simp only [hoh _ k]
  exact sum_indicator (fun n' => oh (ix2 n' i)) _ n hk fun j hj => Fin.ext (ofNat_inj j.isLt n.isLt (hj.symm.trans hk))

open Classical in
/-- The winners at an entry: one at the last sample of each node. -/
theorem winners_apply (n : Fin 500) (k : Fin 128) :
    winners k0_pay3 (truncf .bf16 oh bitsLt_bf16_f32) (ix2 n k) = if Last m n.val k then 1 else 0 := by
  unfold winners
  simp only [pointwise]
  simp only [tri_apply, hoh n k]
  by_cases hk : m k = BitVec.ofNat 32 n.val
  · rw [if_pos hk, one_mul]
    have hb : Ideal.ofBits .f32 0xFF800000#32 = ⊥ := by simp [Ideal.ofBits, Ideal.ieee]
    have hf : ∀ i : Fin 128, ((0 + ∑ n', oh (ix2 n' i) * oh (ix2 n' k)) * k0_pay3 (F := Ideal) (ix2 i k))
        = if (k < i ∧ m i = BitVec.ofNat 32 n.val) then (1 : EReal) else 0 := by
      intro i
      rw [tri_apply, zero_add, agree_apply oh m hoh n i k hk]
      by_cases h1 : k < i <;> by_cases h2 : m i = BitVec.ofNat 32 n.val <;> simp [h1, h2]
    show (1 : EReal) - Finset.univ.fold max (Ideal.ofBits .f32 0xFF800000#32)
      (fun i : Fin 128 => (0 + ∑ n', oh (ix2 n' i) * oh (ix2 n' k)) * k0_pay3 (ix2 i k)) = _
    rw [hb, funext hf, fold_max_indicator (n := 127)]
    by_cases hl : Last m n.val k
    · rw [if_pos hl, if_neg, sub_zero]
      rintro ⟨i, h1, h2⟩
      exact hl.2 i h1 h2
    · rw [if_neg hl, if_pos]
      · exact EReal.sub_self (by decide) (by decide)
      · by_contra hne
        exact hl ⟨hk, fun i h1 h2 => hne ⟨i, h1, h2⟩⟩
  · rw [if_neg hk, zero_mul, if_neg (fun h => hk h.1)]

end Winners

section Rows
variable (ew : FVec Ideal S500x128 .bf16) (m : Fin 128 → BitVec 32)

open Classical in
/-- A node without a sample keeps its row. -/
theorem replaced_miss (hew : ∀ (n : Fin 500) k, ew (ix2 n k) = if Last m n.val k then 1 else 0) (w y x : FVec Ideal S500x24 .f32)
    (n : Fin 500) (t : Fin 24) (h : ∀ k, m k ≠ BitVec.ofNat 32 n.val) : replaced (hit ew) w y x (ix2 n t) = x (ix2 n t) := by
  unfold replaced hit
  simp only [pointwise]
  have hb : Ideal.ofBits .f32 0xFF800000#32 = ⊥ := by simp [Ideal.ofBits, Ideal.ieee]
  erw [hb, funext (hew n)]
  have hz : (if ∃ k, Last m n.val k then 1 else 0 : EReal) = 0 := if_neg (fun ⟨k, hk⟩ => h k hk.1)
  rw [fold_max_indicator (n := 127), hz, if_neg (lt_irrefl _)]

open Classical in
/-- A node with a last sample takes its product. -/
theorem replaced_last (hew : ∀ (n : Fin 500) k, ew (ix2 n k) = if Last m n.val k then 1 else 0) (w y x : FVec Ideal S500x24 .f32)
    (n : Fin 500) (t : Fin 24) (k : Fin 128) (h : Last m n.val k) :
    replaced (hit ew) w y x (ix2 n t) = w (ix2 n t) * y (ix2 n t) := by
  unfold replaced hit
  simp only [pointwise]
  have hb : Ideal.ofBits .f32 0xFF800000#32 = ⊥ := by simp [Ideal.ofBits, Ideal.ieee]
  erw [hb, funext (hew n)]
  have hz : (if ∃ k, Last m n.val k then 1 else 0 : EReal) = 1 := if_pos ⟨k, h⟩
  rw [fold_max_indicator (n := 127), hz, if_pos zero_lt_one]

open Classical in
/-- The weight of a node with a last sample: the sample's selection times its mask. -/
theorem weight_last (hew : ∀ (n : Fin 500) k, ew (ix2 n k) = if Last m n.val k then 1 else 0) (sel : FVec Ideal S1x128 .bf16)
    (mu : FVec Ideal S128x24 .f32) (n : Fin 500) (t : Fin 24) (k : Fin 128) (h : Last m n.val k) :
    weight ew sel (kept mu) (ix2 n t) = sel (ix2 0 k) * if tenth < mu (ix2 k t) then 1 else 0 := by
  unfold weight kept
  simp only [pointwise]
  simp only [hew]
  rw [zero_add, Finset.sum_eq_single k]
  · rw [if_pos h, one_mul]; rfl
  · intro j _ hj
    rw [if_neg (fun hl => hj (hl.unique h)), zero_mul, zero_mul]
  · intro hk; exact absurd (Finset.mem_univ k) hk

end Rows

section Selection
variable (oh : FVec Ideal S500x128 .f32) (m : Fin 128 → BitVec 32)
  (hoh : ∀ (n : Fin 500) k, oh (ix2 n k) = if m k = BitVec.ofNat 32 n.val then 1 else 0)
  (y : FVec Ideal S500x24 .f32) (w1 : FVec Ideal S32x24 .f32) (b1 : FVec Ideal S32x1 .f32)
  (w2 : FVec Ideal S2x32 .f32) (b2 : FVec Ideal S1x1 .f32)
  (row : Fin 24 → ℝ) (w1R : Fin 24 → Fin 32 → ℝ) (b1R : Fin 32 → ℝ) (w2R : Fin 32 → Fin 2 → ℝ) (b2R : Fin 2 → ℝ)
  (n : Fin 500)
  (hy : ∀ s, y (ix2 n s) = (row s : EReal)) (hw1 : ∀ j s, w1 (ix2 j s) = (w1R s j : EReal))
  (hb1 : ∀ j, b1 (ix2 j 0) = (b1R j : EReal)) (hw2 : ∀ o j, w2 (ix2 o j) = (w2R j o : EReal))
  (hb2 : b2 (ix2 0 0) = ((b2R 1 - b2R 0 : ℝ) : EReal))

include hoh hy hw1 hb1 in
/-- The hidden layer of a sample of node `n`, in reals. -/
theorem hidden_apply (k : Fin 128) (hk : m k = BitVec.ofNat 32 n.val) (j : Fin 32) :
    Block.hidden oh y w1 b1 (ix2 j k) = (hid row w1R b1R j : EReal) := by
  unfold Block.hidden
  simp only [pointwise]
  have hs : ∀ s, (0 + ∑ n', y (ix2 n' s) * oh (ix2 n' k)) = (row s : EReal) := by
    intro s
    simp only [hoh _ k]
    rw [zero_add, ← hy s]
    exact sum_indicator (fun n' => y (ix2 n' s)) _ n hk fun j hj => Fin.ext (ofNat_inj j.isLt n.isLt (hj.symm.trans hk))
  have hd : (ix2 (if h1 : 32 = 1 then (0 : Fin 32) else j) (if h1 : 1 = 1 then (0 : Fin 1) else ⟨k.val, by omega⟩)) = ix2 j 0 := rfl
  simp only [hs, hw1]
  erw [hd]
  rw [hb1, zero_add]
  unfold hid
  rw [coe_max, EReal.coe_add, coe_sum]
  simp only [EReal.coe_mul, EReal.coe_zero]
  simp only [mul_comm]

include hoh hy hw1 hb1 hw2 hb2 in
/-- The margin of a sample of node `n`, in reals: the second logit less the first. -/
theorem margin_apply (k : Fin 128) (hk : m k = BitVec.ofNat 32 n.val) :
    margin (scores (Block.hidden oh y w1 b1) w2) b2 (ix2 0 k)
      = ((score row w1R b1R w2R b2R 1 - score row w1R b1R w2R b2R 0 : ℝ) : EReal) := by
  unfold margin scores
  simp only [pointwise]
  have h1 : (⟨(![1, 0] : Fin 2 → ℕ) 1 + k.val, (by show 0 + k.val < 128; omega)⟩ : Fin 128) = k := Fin.ext (by show 0 + k.val = k.val; omega)
  have h0 : (⟨(![0, 0] : Fin 2 → ℕ) 1 + k.val, (by show 0 + k.val < 128; omega)⟩ : Fin 128) = k := Fin.ext (by show 0 + k.val = k.val; omega)
  simp only [h1, h0, hidden_apply oh m hoh y w1 b1 row w1R b1R n hy hw1 hb1 k hk, hw2]
  have hd : (ix2 (if h1 : 1 = 1 then (0 : Fin 1) else 0) (if h1 : 1 = 1 then (0 : Fin 1) else ⟨k.val, by omega⟩)) = ix2 0 0 := rfl
  erw [hd]
  rw [hb2]
  simp only [zero_add, ← EReal.coe_mul, ← coe_sum, ← EReal.coe_sub, ← EReal.coe_add]
  unfold score
  congr 1
  simp only [mul_comm (w2R _ _)]
  ring

open Classical in
include hoh hy hw1 hb1 hw2 hb2 in
/-- A sample of node `n` is selected when its second noisy logit exceeds the first. -/
theorem selected_apply (k : Fin 128) (hk : m k = BitVec.ofNat 32 n.val) (thr : FVec Ideal S16x128 .f32) (g : Fin 16)
    (u : Fin 2 → ℝ) (ht : thr (ix2 g k) = ((noise (u 0) - noise (u 1) : ℝ) : EReal)) :
    selected (margin (scores (Block.hidden oh y w1 b1) w2) b2) thr g (ix2 0 k)
      = if Chosen row w1R b1R w2R b2R u then 1 else 0 := by
  have hm := margin_apply oh m hoh y w1 b1 w2 b2 row w1R b1R w2R b2R n hy hw1 hb1 hw2 hb2 k hk
  generalize margin (scores (Block.hidden oh y w1 b1) w2) b2 = d at hm ⊢
  unfold selected
  simp only [pointwise]
  have e2 : (ix2 (n0 := 16) (n1 := 128) ⟨(![g.val, 0] : Fin 2 → ℕ) 0 + 0, (by show g.val + 0 < 16; omega)⟩
      ⟨(![g.val, 0] : Fin 2 → ℕ) 1 + k.val, (by show 0 + k.val < 128; omega)⟩) = ix2 g k := by
    apply Shape.idx_ext₂
    · show g.val + 0 = g.val; omega
    · show 0 + k.val = k.val; omega
  erw [e2]
  rw [hm, ht]
  have : ((noise (u 0) - noise (u 1) : ℝ) : EReal) < ((score row w1R b1R w2R b2R 1 - score row w1R b1R w2R b2R 0 : ℝ) : EReal)
      ↔ Chosen row w1R b1R w2R b2R u := by
    rw [EReal.coe_lt_coe_iff]
    unfold Chosen
    constructor <;> intro h <;> linarith
  by_cases h : Chosen row w1R b1R w2R b2R u
  · rw [if_pos h, if_pos (this.mpr h)]
  · rw [if_neg h, if_neg (fun h' => h (this.mp h'))]

end Selection

section Group
variable (g : Fin 16) (mp : IVec S16x128 32) (thr : FVec Ideal S16x128 .f32)
    (x y : FVec Ideal S500x24 .f32) (mu : FVec Ideal S128x24 .f32) (w1 : FVec Ideal S32x24 .f32) (b1 : FVec Ideal S32x1 .f32)
    (w2 : FVec Ideal S2x32 .f32) (b2 : FVec Ideal S1x1 .f32)

/-- The body's entry at a node no sample names: `x` as it was. -/
theorem blockOut_miss (n : Fin 500) (t : Fin 24) (h : ∀ k, mp (ix2 g k) ≠ BitVec.ofNat 32 n.val) :
    blockOut g mp thr k0_pay3 x y mu w1 b1 w2 b2 (ix2 n t) = x (ix2 n t) := by
  classical
  exact replaced_miss _ (fun k => mp (ix2 g k)) (winners_apply _ _ (oneHot_apply mp g)) _ _ _ n t h

open Classical in
/-- The body's entry at a node whose last sample is `k`: `y` where the sample is chosen and its mask kept, else zero. -/
theorem blockOut_last (n : Fin 500) (t : Fin 24) (k : Fin 128) (h : Last (fun k => mp (ix2 g k)) n.val k)
    (row : Fin 24 → ℝ) (w1R : Fin 24 → Fin 32 → ℝ) (b1R : Fin 32 → ℝ) (w2R : Fin 32 → Fin 2 → ℝ) (b2R : Fin 2 → ℝ)
    (hy : ∀ s, y (ix2 n s) = (row s : EReal)) (hw1 : ∀ j s, w1 (ix2 j s) = (w1R s j : EReal))
    (hb1 : ∀ j, b1 (ix2 j 0) = (b1R j : EReal)) (hw2 : ∀ o j, w2 (ix2 o j) = (w2R j o : EReal))
    (hb2 : b2 (ix2 0 0) = ((b2R 1 - b2R 0 : ℝ) : EReal))
    (u : Fin 2 → ℝ) (ht : thr (ix2 g k) = ((noise (u 0) - noise (u 1) : ℝ) : EReal)) :
    blockOut g mp thr k0_pay3 x y mu w1 b1 w2 b2 (ix2 n t)
      = if Chosen row w1R b1R w2R b2R u ∧ tenth < mu (ix2 k t) then y (ix2 n t) else 0 := by
  have hew := winners_apply _ _ (oneHot_apply mp g)
  refine (replaced_last _ (fun k => mp (ix2 g k)) hew _ _ _ n t k h).trans ?_
  rw [weight_last _ (fun k => mp (ix2 g k)) hew _ _ n t k h,
    selected_apply _ _ (oneHot_apply mp g) y w1 b1 w2 b2 row w1R b1R w2R b2R n hy hw1 hb1 hw2 hb2 k h.1 thr g u ht]
  by_cases h1 : Chosen row w1R b1R w2R b2R u <;> by_cases h2 : tenth < mu (ix2 k t) <;> simp [h1, h2]

end Group

end Cert.BlockValue

end
-- ==== Proof.KernelArray.lean ====
/- What the kernel's output array holds after the run, entry by entry, in terms of the argument arrays. -/
module

public import proofs.«01_k».proof.Proof.BlockValue
public import Idealize.ShloMosaic.Lib.Pipeline.ValueKit

@[expose] public section

noncomputable section

namespace Cert.KernelArray

open Cert.KernelIdeal Cert.KernelIdeal.Gen Cert.Block Cert.Spec Idealize.ShloMosaic Idealize.ShloMosaic.TcCoe Idealize.SL.Sem
open Idealize.ShloMosaic.Pipeline (Dat)

/-- Where each window's block sits at each grid point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0] := by
  decide +kernel

variable (m : (ℓ : Loc nD τ sig) → Buf (Elt Ideal) ℓ) (c : Dev nD)

/-- The group that group `g` of grid point `t` is. -/
def grp (t : Fin cfg0.N) (g : Fin 16) : Fin 1024 := ⟨16 * t.val + g.val, by
  have := t.isLt; have : cfg0.N = 64 := rfl; omega⟩

/-- Every group is one of some grid point's sixteen. -/
theorem exists_grp (b : Fin 1024) : ∃ t g, b = grp t g :=
  ⟨⟨b.val / 16, by have : cfg0.N = 64 := rfl; omega⟩, ⟨b.val % 16, by omega⟩,
    Fin.ext (by show b.val = 16 * (b.val / 16) + b.val % 16; omega)⟩

/-- Grid point `t`'s row of node numbers. -/
theorem map_at (t : Fin cfg0.N) (g : Fin 16) (k : Fin 128) :
    (iblk m c 0 t : Vec Ideal S16x128 .i32) (ix2 g k) = m ((c : Thread nD τ).loc main_arg2) (ix2 (grp t g) k) := by
  blk_ext [iblk, V, idx t, grp]

/-- Grid point `t`'s row of `x`. -/
theorem x_at (t : Fin cfg0.N) (g : Fin 16) (n : Fin 500) (s : Fin 24) :
    (iblk m c 3 t : Vec Ideal S8000x24 .f32) (ix2 ⟨500 * g.val + n.val, by omega⟩ s)
      = m ((c : Thread nD τ).loc main_arg0) (ix2 (nodeRow (grp t g) n) s) := by
  blk_ext [iblk, V, idx t, grp, nodeRow]

/-- Grid point `t`'s row of `y`. -/
theorem y_at (t : Fin cfg0.N) (g : Fin 16) (n : Fin 500) (s : Fin 24) :
    (iblk m c 4 t : Vec Ideal S8000x24 .f32) (ix2 ⟨500 * g.val + n.val, by omega⟩ s)
      = m ((c : Thread nD τ).loc main_arg1) (ix2 (nodeRow (grp t g) n) s) := by
  blk_ext [iblk, V, idx t, grp, nodeRow]

/-- Grid point `t`'s row of the mask. -/
theorem mask_at (t : Fin cfg0.N) (g : Fin 16) (k : Fin 128) (s : Fin 24) :
    (iblk m c 5 t : Vec Ideal S2048x24 .f32) (ix2 ⟨128 * g.val + k.val, by omega⟩ s)
      = m ((c : Thread nD τ).loc main_arg4) (ix2 (sampleRow (grp t g) k) s) := by
  blk_ext [iblk, V, idx t, grp, sampleRow]

/-- The first layer's weights, transposed. -/
theorem w1_at (t : Fin cfg0.N) (j : Fin 32) (s : Fin 24) :
    (iblk m c 6 t : Vec Ideal S32x24 .f32) (ix2 j s) = m ((c : Thread nD τ).loc main_arg6) (ix2 s j) := by
  unfold iblk
  entry_read
  have he : ((win0_6.blk t).view.emb (ix2 j s) : S32x24.Idx) = ix2 j s := by
    apply Shape.idx_ext₂ <;> blk_simp [idx t]
  blk_simp [idx t]
  erw [he]
  simp only [pointwise]

/-- The first layer's bias, as a column. -/
theorem b1_at (t : Fin cfg0.N) (j : Fin 32) :
    (iblk m c 7 t : Vec Ideal S32x1 .f32) (ix2 j 0) = m ((c : Thread nD τ).loc main_arg7) (ix1 j) := by
  unfold iblk
  entry_read
  have he : ((win0_7.blk t).view.emb (ix2 j 0) : S32x1.Idx) = ix2 j 0 := by
    apply Shape.idx_ext₂ <;> blk_simp [idx t]
  blk_simp [idx t]
  erw [he]
  simp only [pointwise]

/-- The second layer's weights, transposed. -/
theorem w2_at (t : Fin cfg0.N) (o : Fin 2) (j : Fin 32) :
    (iblk m c 8 t : Vec Ideal S2x32 .f32) (ix2 o j) = m ((c : Thread nD τ).loc main_arg8) (ix2 j o) := by
  unfold iblk
  entry_read
  have he : ((win0_8.blk t).view.emb (ix2 o j) : S2x32.Idx) = ix2 o j := by
    apply Shape.idx_ext₂ <;> blk_simp [idx t]
  blk_simp [idx t]
  erw [he]
  simp only [pointwise]

/-- The difference of the second layer's two biases. -/
theorem b2_at (t : Fin cfg0.N) (b2R : Fin 2 → ℝ) (h : ∀ o, m ((c : Thread nD τ).loc main_arg9) (ix1 o) = (b2R o : EReal)) :
    (iblk m c 9 t : Vec Ideal S1x1 .f32) (ix2 0 0) = ((b2R 1 - b2R 0 : ℝ) : EReal) := by
  unfold iblk
  entry_read
  have he : ((win0_9.blk t).view.emb (ix2 0 0) : S1x1.Idx) = ix2 0 0 := by
    apply Shape.idx_ext₂ <;> blk_simp [idx t]
  blk_simp [idx t]
  erw [he]
  simp only [pointwise]
  erw [h 1, h 0]
  rfl

/-- The first uniform number of each sample. -/
theorem u0_at (t : Fin cfg0.N) (g : Fin 16) (k : Fin 128) :
    (iblk m c 1 t : Vec Ideal S16x128 .f32) (ix2 g k) = m ((c : Thread nD τ).loc main_arg5) (ix2 (sampleRow (grp t g) k) 0) := by
  unfold iblk
  entry_read
  have he : ((win0_1.blk t).view.emb (ix2 g k) : S1024x128.Idx) = ix2 (grp t g) k := by
    apply Shape.idx_ext₂ <;> blk_simp [idx t, grp]
    show t.val * 16 + g.val = 16 * t.val + g.val
    omega
  blk_simp [idx t]
  erw [he]
  simp only [pointwise]
  refine congrArg (m ((c : Thread nD τ).loc main_arg5)) (Shape.idx_ext₂ ?_ ?_)
  · show (0 + (16 * t.val + g.val)) * 128 + (0 + k.val) = 128 * (16 * t.val + g.val) + k.val
    omega
  · rfl

/-- The second uniform number of each sample. -/
theorem u1_at (t : Fin cfg0.N) (g : Fin 16) (k : Fin 128) :
    (iblk m c 2 t : Vec Ideal S16x128 .f32) (ix2 g k) = m ((c : Thread nD τ).loc main_arg5) (ix2 (sampleRow (grp t g) k) 1) := by
  unfold iblk
  entry_read
  have he : ((win0_2.blk t).view.emb (ix2 g k) : S1024x128.Idx) = ix2 (grp t g) k := by
    apply Shape.idx_ext₂ <;> blk_simp [idx t, grp]
    show t.val * 16 + g.val = 16 * t.val + g.val
    omega
  blk_simp [idx t]
  erw [he]
  simp only [pointwise]
  refine congrArg (m ((c : Thread nD τ).loc main_arg5)) (Shape.idx_ext₂ ?_ ?_)
  · show (0 + (16 * t.val + g.val)) * 128 + (0 + k.val) = 128 * (16 * t.val + g.val) + k.val
    omega
  · rfl

/-- A load of a group's rows. -/
theorem ld_rows (X : Vec Ideal S8000x24 .f32) (g : Fin 16) (n : Fin 500) (s : Fin 24) :
    View.ld X (rows g) (ix2 n s) = X (ix2 ⟨500 * g.val + n.val, by omega⟩ s) :=
  View.ld_unit_apply_of X _ _ _ _ _ fun a => match a with
    | ⟨0, _⟩ => rfl
    | ⟨1, _⟩ => (Nat.zero_add _).symm

/-- A load of a group's mask rows. -/
theorem ld_maskRows (X : Vec Ideal S2048x24 .f32) (g : Fin 16) (k : Fin 128) (s : Fin 24) :
    View.ld X (maskRows g) (ix2 k s) = X (ix2 ⟨128 * g.val + k.val, by omega⟩ s) :=
  View.ld_unit_apply_of X _ _ _ _ _ fun a => match a with
    | ⟨0, _⟩ => rfl
    | ⟨1, _⟩ => (Nat.zero_add _).symm

/-- The rows of different groups do not meet. -/
theorem rows_disjoint (k k' : Fin 16) (hk : k ≠ k') : Disjoint (rows k.rev).set (rows k'.rev).set := by
  have hne : (k.rev).val ≠ (k'.rev).val := fun h => hk (Fin.rev_injective (Fin.ext h))
  rw [Finset.disjoint_left]
  intro i hi hi'
  have h := Rect.mem_set_unit.mp hi ⟨0, by decide⟩
  have h' := Rect.mem_set_unit.mp hi' ⟨0, by decide⟩
  have e : 500 * (k.rev).val ≤ (i ⟨0, by decide⟩ : ℕ) ∧ (i ⟨0, by decide⟩ : ℕ) < 500 * (k.rev).val + 500 := h
  have e' : 500 * (k'.rev).val ≤ (i ⟨0, by decide⟩ : ℕ) ∧ (i ⟨0, by decide⟩ : ℕ) < 500 * (k'.rev).val + 500 := h'
  omega

/-- The body's output at a node of a group is what the group stored there. -/
theorem out_at (x0 : Vec Ideal S16x128 .i32) (x1 x2 : Vec Ideal S16x128 .f32) (x3 x4 : Vec Ideal S8000x24 .f32)
    (x5 : Vec Ideal S2048x24 .f32) (x6 : Vec Ideal S32x24 .f32) (x7 : Vec Ideal S32x1 .f32) (x8 : Vec Ideal S2x32 .f32)
    (x9 : Vec Ideal S1x1 .f32) (g : Fin 16) (n : Fin 500) (s : Fin 24) :
    out0_10 x0 x1 x2 x3 x4 x5 x6 x7 x8 x9 (ix2 ⟨500 * g.val + n.val, by omega⟩ s)
      = blockOut g x0 (k0_pay2 x1 x2) k0_pay3 (View.ld x3 (rows g)) (View.ld x4 (rows g)) (View.ld x5 (maskRows g))
          x6 x7 x8 x9 (ix2 n s) := by
  rw [out_eq]
  have he : (ix2 ⟨500 * g.val + n.val, by omega⟩ s : S8000x24.Idx) = (rows g.rev.rev).emb (ix2 n s) := by
    rw [Fin.rev_rev]
    apply Shape.idx_ext₂
    · rw [Rect.emb_apply]
      show 500 * g.val + n.val = 500 * g.val + 1 * n.val
      omega
    · rw [Rect.emb_apply]
      show s.val = 0 + 1 * s.val
      omega
  rw [he, View.canon_ofFn_emb_of_disjoint _ _ rows_disjoint g.rev, Fin.rev_rev]
  simp (disch := decide) only [View.ld_unit_lit]

/-- The threshold of a sample: the difference of its two noises. -/
theorem thr_at (x1 x2 : Vec Ideal S16x128 .f32) (g : Fin 16) (k : Fin 128) (u : Fin 2 → ℝ)
    (h0 : x1 (ix2 g k) = (u 0 : EReal)) (h1 : x2 (ix2 g k) = (u 1 : EReal)) (hp : ∀ o, 0 < u o) (hl : ∀ o, u o < 1) :
    k0_pay2 (F := Ideal) x1 x2 (ix2 g k) = ((noise (u 0) - noise (u 1) : ℝ) : EReal) := by
  unfold k0_pay2
  simp only [pointwise]
  have pos : ∀ o, 0 < -Real.log (u o) := fun o => neg_pos.mpr (Real.log_neg (hp o) (hl o))
  have hlog : ∀ v : ℝ, 0 < v → Ideal.log (v : EReal) = (Real.log v : EReal) := fun v hv => by
    rw [Ideal.log_coe, if_neg (not_le.mpr hv)]
  have neg : ∀ v : ℝ, (0 : EReal) - (v : EReal) = ((-v : ℝ) : EReal) := fun v => by
    rw [zero_sub, EReal.coe_neg]
  rw [h0, h1, hlog _ (hp 0), hlog _ (hp 1), neg, neg, hlog _ (pos 0), hlog _ (pos 1), neg, ← EReal.coe_add]
  unfold noise
  rw [sub_neg_eq_add]

/-- The output array at a node of a group is the body's output at the node. -/
theorem arr_at (t : Fin cfg0.N) (g : Fin 16) (n : Fin 500) (s : Fin 24) :
    ((dats m 0 c).arrAt 10 cfg0.N : Vec Ideal S512000x24 .f32) (ix2 (nodeRow (grp t g) n) s)
      = out0_10 (iblk m c 0 t) (iblk m c 1 t) (iblk m c 2 t) (iblk m c 3 t) (iblk m c 4 t) (iblk m c 5 t) (iblk m c 6 t)
          (iblk m c 7 t) (iblk m c 8 t) (iblk m c 9 t) (ix2 ⟨500 * g.val + n.val, by omega⟩ s) := by
  have he : ((win0_10.blk t).view.emb (ix2 ⟨500 * g.val + n.val, by omega⟩ s) : S512000x24.Idx) = ix2 (nodeRow (grp t g) n) s := by
    apply Shape.idx_ext₂
    · blk_simp [idx t, nodeRow, grp]
      show t.val * 8000 + (500 * g.val + n.val) = 500 * (16 * t.val + g.val) + n.val
      omega
    · blk_simp [idx t]
  rw [← he]
  refine ((dats m 0 c).arrAt_emb_eq_flushed 10 Value.disjoint10 t (flush0_10 t) _).trans ?_
  rw [Value.flushed10]
  generalize out0_10 (iblk m c 0 t) (iblk m c 1 t) (iblk m c 2 t) (iblk m c 3 t) (iblk m c 4 t) (iblk m c 5 t) (iblk m c 6 t)
          (iblk m c 7 t) (iblk m c 8 t) (iblk m c 9 t) = X
  rfl

/-- The kernel's output array. -/
theorem array_out (p : Reals)
    (hp : Reads (fun r s => m ((c : Thread nD τ).loc main_arg1) (ix2 r s)) (fun r s => m ((c : Thread nD τ).loc main_arg5) (ix2 r s))
      (fun r s => m ((c : Thread nD τ).loc main_arg6) (ix2 r s)) (fun r => m ((c : Thread nD τ).loc main_arg7) (ix1 r))
      (fun r s => m ((c : Thread nD τ).loc main_arg8) (ix2 r s)) (fun r => m ((c : Thread nD τ).loc main_arg9) (ix1 r)) p) :
    Out p (fun b k => m ((c : Thread nD τ).loc main_arg2) (ix2 b k)) (fun r s => m ((c : Thread nD τ).loc main_arg0) (ix2 r s))
      (fun r s => m ((c : Thread nD τ).loc main_arg4) (ix2 r s))
      (fun r s => ((dats m 0 c).arrAt 10 cfg0.N : Vec Ideal S512000x24 .f32) (ix2 r s)) := by
  intro b n s
  obtain ⟨t, g, rfl⟩ := exists_grp b
  refine ⟨fun h => ?_, fun k h => ?_⟩
  · refine (arr_at m c t g n s).trans ((out_at ..).trans ((BlockValue.blockOut_miss g _ _ _ _ _ _ _ _ _ n s fun k e => ?_).trans ?_))
    · exact h k ((map_at m c t g k).symm.trans e)
    · exact (ld_rows _ g n s).trans (x_at m c t g n s)
  · have hl : Last (fun k => (iblk m c 0 t : Vec Ideal S16x128 .i32) (ix2 g k)) n.val k := by
      have : (fun k => (iblk m c 0 t : Vec Ideal S16x128 .i32) (ix2 g k))
          = fun k => m ((c : Thread nD τ).loc main_arg2) (ix2 (grp t g) k) := funext fun k => map_at m c t g k
      rw [this]; exact h
    have hyv : ∀ s, View.ld (iblk m c 4 t : Vec Ideal S8000x24 .f32) (rows g) (ix2 n s) = (p.y (nodeRow (grp t g) n) s : EReal) := fun s =>
      (ld_rows _ g n s).trans ((y_at m c t g n s).trans (hp.y _ _))
    refine (arr_at m c t g n s).trans ((out_at ..).trans ((BlockValue.blockOut_last g _ _ _ _ _ _ _ _ _ n s k hl
      (p.y (nodeRow (grp t g) n)) p.w1 p.b1 p.w2 p.b2 hyv
      (fun j s => (w1_at m c t j s).trans (hp.w1 _ _)) (fun j => (b1_at m c t j).trans (hp.b1 _))
      (fun o j => (w2_at m c t o j).trans (hp.w2 _ _)) (b2_at m c t p.b2 hp.b2) (p.u (sampleRow (grp t g) k))
      (thr_at _ _ g k _ ((u0_at m c t g k).trans (hp.u _ _)) ((u1_at m c t g k).trans (hp.u _ _)) (hp.u_pos _) (hp.u_lt _))).trans ?_))
    rw [hyv, ld_maskRows]
    erw [mask_at m c t g k s]

end Cert.KernelArray

end
-- ==== Proof.RefTerm.lean ====
/- What the reference computes, stage by stage: each stage of `reference` as a function of the arrays it reads.
   Nothing is proved here; `RefRun` shows that the reference's run ends with the last stage. -/
module

public import proofs.«01_k».proof.Proof.Gen.ReferenceIdeal
public import Idealize.ShloMosaic.Lib.StableHlo.Run

@[expose] public section

noncomputable section

namespace Cert.RefTerm

open Cert.ReferenceIdeal Cert.ReferenceIdeal.Gen Idealize.ShloMosaic

variable {F : FTy → Type} [FloatOps F]

/-- Two arrays side by side on a new last axis. -/
def joinPair : (⟨S131072x24x1, .f32⟩ : BufTy).Contents (Elt F) → (⟨S131072x24x1, .f32⟩ : BufTy).Contents (Elt F) →
    (⟨S131072x24x2, .f32⟩ : BufTy).Contents (Elt F) :=
  (fun a b => concatenate S131072x24x2 2 [⟨S131072x24x1, a⟩, ⟨S131072x24x1, b⟩] concatenates_S131072x24x1_S131072x24x1_S131072x24x2_d2)

/-- A leading zero in front of the groups' sizes. -/
def joinSizes : (⟨S1, .i32⟩ : BufTy).Contents (Elt F) → (⟨S1024, .i32⟩ : BufTy).Contents (Elt F) →
    (⟨S1025, .i32⟩ : BufTy).Contents (Elt F) :=
  (fun a b => concatenate S1025 0 [⟨S1, a⟩, ⟨S1024, b⟩] concatenates_S1_S1024_S1025_d0)

/-- The node indices with a trailing axis of size one, a negative one counted from the end. -/
def wrapped (mp : IVec S1024x128 32) : IVec S1024x128x1 32 :=
  let a := broadcastInDim S1024x128x1 ![0, 1] bcast_S1024x128_S1024x128x1_0_1 mp
  select (cmpi .slt a (broadcastInDim S1024x128x1 ![] bcast_S_S1024x128x1 (constantI S_ 32 0#32)))
    (addi a (broadcastInDim S1024x128x1 ![] bcast_S_S1024x128x1 (constantI S_ 32 500#32))) a

/-- Which node indices lie inside a group of 500 nodes. -/
def inside (mp : IVec S1024x128 32) : IVec S1024x128 1 :=
  Host.reduce IntOp.andi
    (andi (cmpi .sge (wrapped mp) (broadcastInDim S1024x128x1 ![] bcast_S_S1024x128x1 (constantI S_ 32 0#32)))
      (cmpi .sle (wrapped mp) (broadcastInDim S1024x128x1 ![0, 1, 2] bcast_S1x1x1_S1024x128x1_0_1_2
        (broadcastInDim S1x1x1 ![2] bcast_S1_S1x1x1_2 (constantI S1 32 499#32)))))
    (constantI S_ 1 1#1) reducesTo_S1024x128x1_S1024x128_d2 h_S_

/-- The sampled rows of `y`, one per row of `map_id`. -/
def sampled (y : FVec F S512000x24 .f32) (mp : IVec S1024x128 32) : FVec F S131072x24 .f32 :=
  shapeCast S131072x24
    (select (broadcastInDim S1024x128x24 ![0, 1] bcast_S1024x128_S1024x128x24_0_1 (inside mp))
      (Host.gather gather_S1024x500x24_S1024x128x1_S1024x128x24_2_1_0_0_1_2_1124
        (shapeCast S1024x500x24 y shapeCasts_S512000x24_S1024x500x24) (wrapped mp))
      (broadcastInDim S1024x128x24 ![] bcast_S_S1024x128x24 (constant S_ .f32 0x7FC00000#32)))
    shapeCasts_S1024x128x24_S131072x24

/-- The two candidates for every sampled entry: zero, and the masked entry. -/
def candidates (y : FVec F S512000x24 .f32) (mp : IVec S1024x128 32) (mu : FVec F S131072x24 .f32) :
    FVec F S131072x24x2 .f32 :=
  joinPair
    (broadcastInDim S131072x24x1 ![0, 1] bcast_S131072x24_S131072x24x1_0_1
      (broadcastInDim S131072x24 ![] bcast_S_S131072x24 (constant S_ .f32 0x00000000#32)))
    (broadcastInDim S131072x24x1 ![0, 1] bcast_S131072x24_S131072x24x1_0_1
      (mulf (uitofp .f32 (cmpf .ogt mu (broadcastInDim S131072x24 ![] bcast_S_S131072x24 (constant S_ .f32 0x3DCCCCCD#32))))
        (sampled y mp)))

/-- The hidden layer. -/
def hidden (y : FVec F S512000x24 .f32) (mp : IVec S1024x128 32) (w1 : FVec F S24x32 .f32) (b1 : FVec F S32 .f32) :
    FVec F S131072x32 .f32 :=
  maximumf
    (addf (Host.dotGeneral dot_S131072x24_S24x32_S131072x32_1_0_0_1_n_n none (sampled y mp) w1)
      (broadcastInDim S131072x32 ![0, 1] bcast_S1x32_S131072x32_0_1 (broadcastInDim S1x32 ![1] bcast_S32_S1x32_1 b1)))
    (broadcastInDim S131072x32 ![] bcast_S_S131072x32 (constant S_ .f32 0x00000000#32))

/-- The perturbed logits over the temperature. -/
def logits (y : FVec F S512000x24 .f32) (mp : IVec S1024x128 32) (u : FVec F S131072x2 .f32) (w1 : FVec F S24x32 .f32)
    (b1 : FVec F S32 .f32) (w2 : FVec F S32x2 .f32) (b2 : FVec F S2 .f32) : FVec F S131072x2 .f32 :=
  Host.divf
    (addf
      (addf (Host.dotGeneral dot_S131072x32_S32x2_S131072x2_1_0_0_1_n_n none (hidden y mp w1 b1) w2)
        (broadcastInDim S131072x2 ![0, 1] bcast_S1x2_S131072x2_0_1 (broadcastInDim S1x2 ![1] bcast_S2_S1x2_1 b2)))
      (Host.negf (Host.log (Host.negf (Host.log u)))))
    (broadcastInDim S131072x2 ![] bcast_S_S131072x2 (constant S_ .f32 0x3DCCCCCD#32))

/-- The exponentials of the logits less the row's greatest. -/
def expo (z : FVec F S131072x2 .f32) : FVec F S131072x2 .f32 :=
  Host.exp (subf z (broadcastInDim S131072x2 ![0, 1] bcast_S131072x1_S131072x2_0_1
    (broadcastInDim S131072x1 ![0] bcast_S131072_S131072x1_0
      (maximumf (broadcastInDim S131072 ![] bcast_S_S131072 (constant S_ .f32 0xFF800000#32))
        (Host.reduce FloatOps.maximumf z (constant S_ .f32 0xFF800000#32) reducesTo_S131072x2_S131072_d1 h_S_)))))

/-- The row-wise softmax. -/
def soft (z : FVec F S131072x2 .f32) : FVec F S131072x2 .f32 :=
  Host.divf (expo z) (broadcastInDim S131072x2 ![0, 1] bcast_S131072x1_S131072x2_0_1
    (broadcastInDim S131072x1 ![0] bcast_S131072_S131072x1_0
      (Host.reduceAdd (expo z) (constant S_ .f32 0x00000000#32) reducesTo_S131072x2_S131072_d1 h_S_)))

/-- The position of the row's greatest entry, the first of equals. -/
def pick (s : FVec F S131072x2 .f32) : IVec S131072 32 :=
  fun j => (Host.argReduce reducer_argmax_f32_i32 s (iotaInDim S131072x2 32 1) (constant S_ .f32 0xFF800000#32)
    (constantI S_ 32 0#32) reducesTo_S131072x2_S131072_d1 h_S_ j).2

/-- The one-hot row of the picked position. -/
def hard (s : FVec F S131072x2 .f32) : FVec F S131072x2 .f32 :=
  uitofp .f32 (cmpi .eq
    (broadcastInDim S131072x2 ![0, 1] bcast_S131072x1_S131072x2_0_1
      (broadcastInDim S131072x1 ![0] bcast_S131072_S131072x1_0 (pick s)))
    (broadcastInDim S131072x2 ![0, 1] bcast_S1x2_S131072x2_0_1 (iotaInDim S1x2 32 1)))

/-- The straight-through choice: the one-hot less the softmax plus the softmax. -/
def chosen (s : FVec F S131072x2 .f32) : FVec F S131072x2 .f32 := addf (subf (hard s) s) s

/-- What each sampled entry becomes: the choice's weighted sum of the two candidates. -/
def mixed (g : FVec F S131072x2 .f32) (p : FVec F S131072x24x2 .f32) : FVec F S131072x24 .f32 :=
  Host.reduceAdd
    (mulf (broadcastInDim S131072x24x2 ![0, 1, 2] bcast_S131072x1x2_S131072x24x2_0_1_2
      (broadcastInDim S131072x1x2 ![0, 2] bcast_S131072x2_S131072x1x2_0_2 g)) p)
    (constant S_ .f32 0x00000000#32) reducesTo_S131072x24x2_S131072x24_d2 h_S_

/-- Where each group starts: the running sum of the sizes before it. -/
def starts (sz : IVec S1024 32) : IVec S1024 32 :=
  Host.reduceWindow IntOp.addi ![1024] ![1] ![1023] ![0]
    (extractStridedSlice S1024 ![0]
      (joinSizes (F := F) (broadcastInDim S1 ![] bcast_S_S1 (constantI S_ 32 0#32)) sz) slices_S1025_S1024_0)
    (broadcastInDim S_ ![] bcast_S_S_ (constantI S_ 32 0#32)) reduceWindows_S1024_S1024_w1024s1p1023_0 h_S_

/-- The row of `x` each sampled row is written to. -/
def target (mp : IVec S1024x128 32) (sz : IVec S1024 32) : IVec S131072 32 :=
  addi (shapeCast S131072 (broadcastInDim S1024x128 ![0] bcast_S1024_S1024x128_0 (starts (F := F) sz)) shapeCasts_S1024x128_S131072)
    (shapeCast S131072 mp shapeCasts_S1024x128_S131072)

/-- The same as start indices of the scatter, a negative one counted from the end. -/
def targetCol (mp : IVec S1024x128 32) (sz : IVec S1024 32) : IVec S131072x1 32 :=
  broadcastInDim S131072x1 ![0] bcast_S131072_S131072x1_0
    (select (cmpi .slt (target (F := F) mp sz) (broadcastInDim S131072 ![] bcast_S_S131072 (constantI S_ 32 0#32)))
      (addi (target (F := F) mp sz) (broadcastInDim S131072 ![] bcast_S_S131072 (constantI S_ 32 512000#32)))
      (target (F := F) mp sz))

/-- The reference's result. -/
def result (x y : FVec F S512000x24 .f32) (mp : IVec S1024x128 32) (sz : IVec S1024 32) (mu : FVec F S131072x24 .f32)
    (u : FVec F S131072x2 .f32) (w1 : FVec F S24x32 .f32) (b1 : FVec F S32 .f32) (w2 : FVec F S32x2 .f32)
    (b2 : FVec F S2 .f32) : FVec F S512000x24 .f32 :=
  Host.scatter scatter_S512000x24_S131072x1_S131072x24_1_0_0_1 (fun _ b => b) x (targetCol (F := F) mp sz)
    (mixed (chosen (soft (logits y mp u w1 b1 w2 b2))) (candidates y mp mu))

end Cert.RefTerm

end
-- ==== Proof.RefRun.lean ====
/- The reference's run: @main is a straight line of host operations, so every execution ends with each buffer at the
   operations' composed value; the result buffer holds `RefTerm.result` of the arguments. -/
module

public import proofs.«01_k».proof.Proof.RefTerm

@[expose] public section

noncomputable section

namespace Cert.RefRun

open Cert.ReferenceIdeal Cert.ReferenceIdeal.Gen Cert.RefTerm Idealize.ShloMosaic Idealize.ShloMosaic.TcCoe Idealize.SL.Sem
  Idealize.ShloMosaic.StableHlo

variable {F : FTy → Type} [FloatOps F]

/-- @main's operations, in order, a called function's standing in its call's place. -/
abbrev ops : List (HloOp τ sig (Elt F)) :=
  [ reshape main_arg1 main_v0 (rfl : (.f32 : EltTy) = .f32) shapeCasts_S512000x24_S1024x500x24,
    unary main_arg2 main_v1 (broadcastInDim S1024x128x1 ![0, 1] bcast_S1024x128_S1024x128x1_0_1 : (⟨S1024x128, .i32⟩ : BufTy).Contents (Elt F) → (⟨S1024x128x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x128x1, .i32⟩) main_call0_v0) (broadcastInDim S1024x128x1 ![] bcast_S_S1024x128x1),
    TRef.binary (TRef.of (T := ⟨S1024x128x1, .i32⟩) main_v1) (TRef.of (T := ⟨S1024x128x1, .i32⟩) main_call0_v0) (TRef.of (T := ⟨S1024x128x1, .i1⟩) main_call0_v1) (cmpi .slt),
    TRef.nullary (TRef.of (T := ⟨S_, .i32⟩) main_call0_c_0) (constantI S_ 32 500#32),
    TRef.unary (TRef.of (T := ⟨S_, .i32⟩) main_call0_c_0) (TRef.of (T := ⟨S1024x128x1, .i32⟩) main_call0_v2) (broadcastInDim S1024x128x1 ![] bcast_S_S1024x128x1),
    TRef.binary (TRef.of (T := ⟨S1024x128x1, .i32⟩) main_v1) (TRef.of (T := ⟨S1024x128x1, .i32⟩) main_call0_v2) (TRef.of (T := ⟨S1024x128x1, .i32⟩) main_call0_v3) addi,
    TRef.ternary (TRef.of (T := ⟨S1024x128x1, .i1⟩) main_call0_v1) (TRef.of (T := ⟨S1024x128x1, .i32⟩) main_call0_v3) (TRef.of (T := ⟨S1024x128x1, .i32⟩) main_v1) (TRef.of (T := ⟨S1024x128x1, .i32⟩) main_call0_v4) select,
    TRef.nullary (TRef.of (T := ⟨S1, .i32⟩) main_call0_c_1) (constantI S1 32 499#32),
    TRef.nullary (TRef.of (T := ⟨S_, .i32⟩) main_call0_c_2) (constantI S_ 32 0#32),
    TRef.unary (TRef.of (T := ⟨S_, .i32⟩) main_call0_c_2) (TRef.of (T := ⟨S1024x128x1, .i32⟩) main_call0_v5) (broadcastInDim S1024x128x1 ![] bcast_S_S1024x128x1),
    TRef.binary (TRef.of (T := ⟨S1024x128x1, .i32⟩) main_call0_v4) (TRef.of (T := ⟨S1024x128x1, .i32⟩) main_call0_v5) (TRef.of (T := ⟨S1024x128x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S1024x128x1, .i32⟩) main_call0_v8) (broadcastInDim S1024x128x1 ![0, 1, 2] bcast_S1x1x1_S1024x128x1_0_1_2),
    TRef.binary (TRef.of (T := ⟨S1024x128x1, .i32⟩) main_call0_v4) (TRef.of (T := ⟨S1024x128x1, .i32⟩) main_call0_v8) (TRef.of (T := ⟨S1024x128x1, .i1⟩) main_call0_v9) (cmpi .sle),
    TRef.binary (TRef.of (T := ⟨S1024x128x1, .i1⟩) main_call0_v6) (TRef.of (T := ⟨S1024x128x1, .i1⟩) main_call0_v9) (TRef.of (T := ⟨S1024x128x1, .i1⟩) main_call0_v10) andi,
    TRef.nullary (TRef.of (T := ⟨S_, .i1⟩) main_call0_c_3) (constantI S_ 1 1#1),
    TRef.binary (TRef.of (T := ⟨S1024x128x1, .i1⟩) main_call0_v10) (TRef.of (T := ⟨S_, .i1⟩) main_call0_c_3) (TRef.of (T := ⟨S1024x128, .i1⟩) main_call0_v11) (fun x v => Host.reduce IntOp.andi x v reducesTo_S1024x128x1_S1024x128_d2 h_S_),
    TRef.binary (TRef.of (T := ⟨S1024x500x24, .f32⟩) main_v0) (TRef.of (T := ⟨S1024x128x1, .i32⟩) main_call0_v4) (TRef.of (T := ⟨S1024x128x24, .f32⟩) main_call0_v12) (fun x i => Host.gather gather_S1024x500x24_S1024x128x1_S1024x128x24_2_1_0_0_1_2_1124 x i),
    TRef.unary (TRef.of (T := ⟨S1024x128, .i1⟩) main_call0_v11) (TRef.of (T := ⟨S1024x128x24, .i1⟩) main_call0_v13) (broadcastInDim S1024x128x24 ![0, 1] bcast_S1024x128_S1024x128x24_0_1),
    TRef.nullary (TRef.of (T := ⟨S_, .f32⟩) main_call0_cst) (constant S_ .f32 0x7FC00000#32),
    TRef.unary (TRef.of (T := ⟨S_, .f32⟩) main_call0_cst) (TRef.of (T := ⟨S1024x128x24, .f32⟩) main_call0_v14) (broadcastInDim S1024x128x24 ![] bcast_S_S1024x128x24),
    TRef.ternary (TRef.of (T := ⟨S1024x128x24, .i1⟩) main_call0_v13) (TRef.of (T := ⟨S1024x128x24, .f32⟩) main_call0_v12) (TRef.of (T := ⟨S1024x128x24, .f32⟩) main_call0_v14) (TRef.of (T := ⟨S1024x128x24, .f32⟩) main_v2) select,
    reshape main_v2 main_v3 (rfl : (.f32 : EltTy) = .f32) shapeCasts_S1024x128x24_S131072x24,
    nullary main_cst (constant S_ .f32 0x3DCCCCCD#32),
    unary main_cst main_v4 (broadcastInDim S131072x24 ![] bcast_S_S131072x24 : (⟨S_, .f32⟩ : BufTy).Contents (Elt F) → (⟨S131072x24, .f32⟩ : BufTy).Contents (Elt F)),
    binary main_arg4 main_v4 main_v5 (cmpf .ogt : (⟨S131072x24, .f32⟩ : BufTy).Contents (Elt F) → (⟨S131072x24, .f32⟩ : BufTy).Contents (Elt F) → (⟨S131072x24, .i1⟩ : BufTy).Contents (Elt F)),
    unary main_v5 main_v6 (uitofp .f32 : (⟨S131072x24, .i1⟩ : BufTy).Contents (Elt F) → (⟨S131072x24, .f32⟩ : BufTy).Contents (Elt F)),
    nullary main_cst_0 (constant S_ .f32 0x00000000#32),
    unary main_cst_0 main_v7 (broadcastInDim S131072x24 ![] bcast_S_S131072x24 : (⟨S_, .f32⟩ : BufTy).Contents (Elt F) → (⟨S131072x24, .f32⟩ : BufTy).Contents (Elt F)),
    unary main_v7 main_v8 (broadcastInDim S131072x24x1 ![0, 1] bcast_S131072x24_S131072x24x1_0_1 : (⟨S131072x24, .f32⟩ : BufTy).Contents (Elt F) → (⟨S131072x24x1, .f32⟩ : BufTy).Contents (Elt F)),
    binary main_v6 main_v3 main_v9 (mulf : (⟨S131072x24, .f32⟩ : BufTy).Contents (Elt F) → (⟨S131072x24, .f32⟩ : BufTy).Contents (Elt F) → (⟨S131072x24, .f32⟩ : BufTy).Contents (Elt F)),
    unary main_v9 main_v10 (broadcastInDim S131072x24x1 ![0, 1] bcast_S131072x24_S131072x24x1_0_1 : (⟨S131072x24, .f32⟩ : BufTy).Contents (Elt F) → (⟨S131072x24x1, .f32⟩ : BufTy).Contents (Elt F)),
    binary main_v8 main_v10 main_v11 (joinPair (F := F)),
    binary main_v3 main_arg6 main_v12 ((fun l r => Host.dotGeneral dot_S131072x24_S24x32_S131072x32_1_0_0_1_n_n none l r) : (⟨S131072x24, .f32⟩ : BufTy).Contents (Elt F) → (⟨S24x32, .f32⟩ : BufTy).Contents (Elt F) → (⟨S131072x32, .f32⟩ : BufTy).Contents (Elt F)),
    unary main_arg7 main_v13 (broadcastInDim S1x32 ![1] bcast_S32_S1x32_1 : (⟨S32, .f32⟩ : BufTy).Contents (Elt F) → (⟨S1x32, .f32⟩ : BufTy).Contents (Elt F)),
    unary main_v13 main_v14 (broadcastInDim S131072x32 ![0, 1] bcast_S1x32_S131072x32_0_1 : (⟨S1x32, .f32⟩ : BufTy).Contents (Elt F) → (⟨S131072x32, .f32⟩ : BufTy).Contents (Elt F)),
    binary main_v12 main_v14 main_v15 (addf : (⟨S131072x32, .f32⟩ : BufTy).Contents (Elt F) → (⟨S131072x32, .f32⟩ : BufTy).Contents (Elt F) → (⟨S131072x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x32, .f32⟩) main_call1_v0) (broadcastInDim S131072x32 ![] bcast_S_S131072x32),
    TRef.binary (TRef.of (T := ⟨S131072x32, .f32⟩) main_v15) (TRef.of (T := ⟨S131072x32, .f32⟩) main_call1_v0) (TRef.of (T := ⟨S131072x32, .f32⟩) main_v16) maximumf,
    binary main_v16 main_arg8 main_v17 ((fun l r => Host.dotGeneral dot_S131072x32_S32x2_S131072x2_1_0_0_1_n_n none l r) : (⟨S131072x32, .f32⟩ : BufTy).Contents (Elt F) → (⟨S32x2, .f32⟩ : BufTy).Contents (Elt F) → (⟨S131072x2, .f32⟩ : BufTy).Contents (Elt F)),
    unary main_arg9 main_v18 (broadcastInDim S1x2 ![1] bcast_S2_S1x2_1 : (⟨S2, .f32⟩ : BufTy).Contents (Elt F) → (⟨S1x2, .f32⟩ : BufTy).Contents (Elt F)),
    unary main_v18 main_v19 (broadcastInDim S131072x2 ![0, 1] bcast_S1x2_S131072x2_0_1 : (⟨S1x2, .f32⟩ : BufTy).Contents (Elt F) → (⟨S131072x2, .f32⟩ : BufTy).Contents (Elt F)),
    binary main_v17 main_v19 main_v20 (addf : (⟨S131072x2, .f32⟩ : BufTy).Contents (Elt F) → (⟨S131072x2, .f32⟩ : BufTy).Contents (Elt F) → (⟨S131072x2, .f32⟩ : BufTy).Contents (Elt F)),
    unary main_arg5 main_v21 (Host.log : (⟨S131072x2, .f32⟩ : BufTy).Contents (Elt F) → (⟨S131072x2, .f32⟩ : BufTy).Contents (Elt F)),
    unary main_v21 main_v22 (Host.negf : (⟨S131072x2, .f32⟩ : BufTy).Contents (Elt F) → (⟨S131072x2, .f32⟩ : BufTy).Contents (Elt F)),
    unary main_v22 main_v23 (Host.log : (⟨S131072x2, .f32⟩ : BufTy).Contents (Elt F) → (⟨S131072x2, .f32⟩ : BufTy).Contents (Elt F)),
    unary main_v23 main_v24 (Host.negf : (⟨S131072x2, .f32⟩ : BufTy).Contents (Elt F) → (⟨S131072x2, .f32⟩ : BufTy).Contents (Elt F)),
    binary main_v20 main_v24 main_v25 (addf : (⟨S131072x2, .f32⟩ : BufTy).Contents (Elt F) → (⟨S131072x2, .f32⟩ : BufTy).Contents (Elt F) → (⟨S131072x2, .f32⟩ : BufTy).Contents (Elt F)),
    nullary main_cst_1 (constant S_ .f32 0x3DCCCCCD#32),
    unary main_cst_1 main_v26 (broadcastInDim S131072x2 ![] bcast_S_S131072x2 : (⟨S_, .f32⟩ : BufTy).Contents (Elt F) → (⟨S131072x2, .f32⟩ : BufTy).Contents (Elt F)),
    binary main_v25 main_v26 main_v27 (Host.divf : (⟨S131072x2, .f32⟩ : BufTy).Contents (Elt F) → (⟨S131072x2, .f32⟩ : BufTy).Contents (Elt F) → (⟨S131072x2, .f32⟩ : BufTy).Contents (Elt F)),
    nullary main_cst_2 (constant S_ .f32 0xFF800000#32),
    binary main_v27 main_cst_2 main_v28 ((fun x v => Host.reduce FloatOps.maximumf x v reducesTo_S131072x2_S131072_d1 h_S_) : (⟨S131072x2, .f32⟩ : BufTy).Contents (Elt F) → (⟨S_, .f32⟩ : BufTy).Contents (Elt F) → (⟨S131072, .f32⟩ : BufTy).Contents (Elt F)),
    nullary main_cst_3 (constant S_ .f32 0xFF800000#32),
    unary main_cst_3 main_v29 (broadcastInDim S131072 ![] bcast_S_S131072 : (⟨S_, .f32⟩ : BufTy).Contents (Elt F) → (⟨S131072, .f32⟩ : BufTy).Contents (Elt F)),
    binary main_v29 main_v28 main_v30 (maximumf : (⟨S131072, .f32⟩ : BufTy).Contents (Elt F) → (⟨S131072, .f32⟩ : BufTy).Contents (Elt F) → (⟨S131072, .f32⟩ : BufTy).Contents (Elt F)),
    unary main_v30 main_v31 (broadcastInDim S131072x1 ![0] bcast_S131072_S131072x1_0 : (⟨S131072, .f32⟩ : BufTy).Contents (Elt F) → (⟨S131072x1, .f32⟩ : BufTy).Contents (Elt F)),
    unary main_v31 main_v32 (broadcastInDim S131072x2 ![0, 1] bcast_S131072x1_S131072x2_0_1 : (⟨S131072x1, .f32⟩ : BufTy).Contents (Elt F) → (⟨S131072x2, .f32⟩ : BufTy).Contents (Elt F)),
    binary main_v27 main_v32 main_v33 (subf : (⟨S131072x2, .f32⟩ : BufTy).Contents (Elt F) → (⟨S131072x2, .f32⟩ : BufTy).Contents (Elt F) → (⟨S131072x2, .f32⟩ : BufTy).Contents (Elt F)),
    unary main_v33 main_v34 (Host.exp : (⟨S131072x2, .f32⟩ : BufTy).Contents (Elt F) → (⟨S131072x2, .f32⟩ : BufTy).Contents (Elt F)),
    nullary main_cst_4 (constant S_ .f32 0x00000000#32),
    binary main_v34 main_cst_4 main_v35 ((fun x v => Host.reduceAdd x v reducesTo_S131072x2_S131072_d1 h_S_) : (⟨S131072x2, .f32⟩ : BufTy).Contents (Elt F) → (⟨S_, .f32⟩ : BufTy).Contents (Elt F) → (⟨S131072, .f32⟩ : BufTy).Contents (Elt F)),
    unary main_v35 main_v36 (broadcastInDim S131072x1 ![0] bcast_S131072_S131072x1_0 : (⟨S131072, .f32⟩ : BufTy).Contents (Elt F) → (⟨S131072x1, .f32⟩ : BufTy).Contents (Elt F)),
    unary main_v36 main_v37 (broadcastInDim S131072x2 ![0, 1] bcast_S131072x1_S131072x2_0_1 : (⟨S131072x1, .f32⟩ : BufTy).Contents (Elt F) → (⟨S131072x2, .f32⟩ : BufTy).Contents (Elt F)),
    binary main_v34 main_v37 main_v38 (Host.divf : (⟨S131072x2, .f32⟩ : BufTy).Contents (Elt F) → (⟨S131072x2, .f32⟩ : BufTy).Contents (Elt F) → (⟨S131072x2, .f32⟩ : BufTy).Contents (Elt F)),
    TRef.nullary (TRef.of (T := ⟨S131072x2, .i32⟩) main_call2_v0) (iotaInDim S131072x2 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S131072x2, .f32⟩) main_v38) (TRef.of (T := ⟨S131072x2, .i32⟩) main_call2_v0) (TRef.of (T := ⟨S_, .f32⟩) main_call2_cst) (TRef.of (T := ⟨S_, .i32⟩) main_call2_c) (TRef.of (T := ⟨S131072, .f32⟩) main_call2_v1_0) (fun x y u v j => (Host.argReduce reducer_argmax_f32_i32 x y u v reducesTo_S131072x2_S131072_d1 h_S_ j).1),
    TRef.quaternary (TRef.of (T := ⟨S131072x2, .f32⟩) main_v38) (TRef.of (T := ⟨S131072x2, .i32⟩) main_call2_v0) (TRef.of (T := ⟨S_, .f32⟩) main_call2_cst) (TRef.of (T := ⟨S_, .i32⟩) main_call2_c) (TRef.of (T := ⟨S131072, .i32⟩) main_v39) (fun x y u v j => (Host.argReduce reducer_argmax_f32_i32 x y u v reducesTo_S131072x2_S131072_d1 h_S_ j).2),
    TRef.unary (TRef.of (T := ⟨S131072, .i32⟩) main_v39) (TRef.of (T := ⟨S131072x1, .i32⟩) main_call3_v0) (broadcastInDim S131072x1 ![0] bcast_S131072_S131072x1_0),
    TRef.nullary (TRef.of (T := ⟨S1x2, .i32⟩) main_call3_v1) (iotaInDim S1x2 32 1),
    TRef.unary (TRef.of (T := ⟨S131072x1, .i32⟩) main_call3_v0) (TRef.of (T := ⟨S131072x2, .i32⟩) main_call3_v2) (broadcastInDim S131072x2 ![0, 1] bcast_S131072x1_S131072x2_0_1),
    TRef.unary (TRef.of (T := ⟨S1x2, .i32⟩) main_call3_v1) (TRef.of (T := ⟨S131072x2, .i32⟩) main_call3_v3) (broadcastInDim S131072x2 ![0, 1] bcast_S1x2_S131072x2_0_1),
    TRef.binary (TRef.of (T := ⟨S131072x2, .i32⟩) main_call3_v2) (TRef.of (T := ⟨S131072x2, .i32⟩) main_call3_v3) (TRef.of (T := ⟨S131072x2, .i1⟩) main_call3_v4) (cmpi .eq),
    TRef.unary (TRef.of (T := ⟨S131072x2, .i1⟩) main_call3_v4) (TRef.of (T := ⟨S131072x2, .f32⟩) main_v40) (uitofp .f32),
    binary main_v40 main_v38 main_v41 (subf : (⟨S131072x2, .f32⟩ : BufTy).Contents (Elt F) → (⟨S131072x2, .f32⟩ : BufTy).Contents (Elt F) → (⟨S131072x2, .f32⟩ : BufTy).Contents (Elt F)),
    binary main_v41 main_v38 main_v42 (addf : (⟨S131072x2, .f32⟩ : BufTy).Contents (Elt F) → (⟨S131072x2, .f32⟩ : BufTy).Contents (Elt F) → (⟨S131072x2, .f32⟩ : BufTy).Contents (Elt F)),
    nullary main_c (constantI S_ 32 0#32),
    unary main_c main_v43 (broadcastInDim S1 ![] bcast_S_S1 : (⟨S_, .i32⟩ : BufTy).Contents (Elt F) → (⟨S1, .i32⟩ : BufTy).Contents (Elt F)),
    binary main_v43 main_arg3 main_v44 (joinSizes (F := F)),
    unary main_v44 main_v45 ((extractStridedSlice S1024 ![0] · slices_S1025_S1024_0) : (⟨S1025, .i32⟩ : BufTy).Contents (Elt F) → (⟨S1024, .i32⟩ : BufTy).Contents (Elt F)),
    TRef.nullary (TRef.of (T := ⟨S_, .i32⟩) main_call4_call0_c) (constantI S_ 32 0#32),
    TRef.unary (TRef.of (T := ⟨S_, .i32⟩) main_call4_call0_c) (TRef.of (T := ⟨S_, .i32⟩) main_call4_call0_v0) (broadcastInDim S_ ![] bcast_S_S_),
    TRef.binary (TRef.of (T := ⟨S1024, .i32⟩) main_v45) (TRef.of (T := ⟨S_, .i32⟩) main_call4_call0_v0) (TRef.of (T := ⟨S1024, .i32⟩) main_v46) (fun x v => Host.reduceWindow IntOp.addi ![1024] ![1] ![1023] ![0] x v reduceWindows_S1024_S1024_w1024s1p1023_0 h_S_),
    unary main_v46 main_v47 (broadcastInDim S1024x128 ![0] bcast_S1024_S1024x128_0 : (⟨S1024, .i32⟩ : BufTy).Contents (Elt F) → (⟨S1024x128, .i32⟩ : BufTy).Contents (Elt F)),
    reshape main_v47 main_v48 (rfl : (.i32 : EltTy) = .i32) shapeCasts_S1024x128_S131072,
    reshape main_arg2 main_v49 (rfl : (.i32 : EltTy) = .i32) shapeCasts_S1024x128_S131072,
    binary main_v48 main_v49 main_v50 (addi : (⟨S131072, .i32⟩ : BufTy).Contents (Elt F) → (⟨S131072, .i32⟩ : BufTy).Contents (Elt F) → (⟨S131072, .i32⟩ : BufTy).Contents (Elt F)),
    unary main_v42 main_v51 (broadcastInDim S131072x1x2 ![0, 2] bcast_S131072x2_S131072x1x2_0_2 : (⟨S131072x2, .f32⟩ : BufTy).Contents (Elt F) → (⟨S131072x1x2, .f32⟩ : BufTy).Contents (Elt F)),
    unary main_v51 main_v52 (broadcastInDim S131072x24x2 ![0, 1, 2] bcast_S131072x1x2_S131072x24x2_0_1_2 : (⟨S131072x1x2, .f32⟩ : BufTy).Contents (Elt F) → (⟨S131072x24x2, .f32⟩ : BufTy).Contents (Elt F)),
    binary main_v52 main_v11 main_v53 (mulf : (⟨S131072x24x2, .f32⟩ : BufTy).Contents (Elt F) → (⟨S131072x24x2, .f32⟩ : BufTy).Contents (Elt F) → (⟨S131072x24x2, .f32⟩ : BufTy).Contents (Elt F)),
    nullary main_cst_5 (constant S_ .f32 0x00000000#32),
    binary main_v53 main_cst_5 main_v54 ((fun x v => Host.reduceAdd x v reducesTo_S131072x24x2_S131072x24_d2 h_S_) : (⟨S131072x24x2, .f32⟩ : BufTy).Contents (Elt F) → (⟨S_, .f32⟩ : BufTy).Contents (Elt F) → (⟨S131072x24, .f32⟩ : BufTy).Contents (Elt F)),
    nullary main_c_6 (constantI S_ 32 0#32),
    unary main_c_6 main_v55 (broadcastInDim S131072 ![] bcast_S_S131072 : (⟨S_, .i32⟩ : BufTy).Contents (Elt F) → (⟨S131072, .i32⟩ : BufTy).Contents (Elt F)),
    binary main_v50 main_v55 main_v56 (cmpi .slt : (⟨S131072, .i32⟩ : BufTy).Contents (Elt F) → (⟨S131072, .i32⟩ : BufTy).Contents (Elt F) → (⟨S131072, .i1⟩ : BufTy).Contents (Elt F)),
    nullary main_c_7 (constantI S_ 32 512000#32),
    unary main_c_7 main_v57 (broadcastInDim S131072 ![] bcast_S_S131072 : (⟨S_, .i32⟩ : BufTy).Contents (Elt F) → (⟨S131072, .i32⟩ : BufTy).Contents (Elt F)),
    binary main_v50 main_v57 main_v58 (addi : (⟨S131072, .i32⟩ : BufTy).Contents (Elt F) → (⟨S131072, .i32⟩ : BufTy).Contents (Elt F) → (⟨S131072, .i32⟩ : BufTy).Contents (Elt F)),
    ternary main_v56 main_v58 main_v50 main_v59 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v59 main_v60 (broadcastInDim S131072x1 ![0] bcast_S131072_S131072x1_0 : (⟨S131072, .i32⟩ : BufTy).Contents (Elt F) → (⟨S131072x1, .i32⟩ : BufTy).Contents (Elt F)),
    ternary main_arg0 main_v60 main_v54 main_v61 ((fun x i u => Host.scatter scatter_S512000x24_S131072x1_S131072x24_1_0_0_1 (fun _ b => b) x i u) : (⟨S512000x24, .f32⟩ : BufTy).Contents (Elt F) → (⟨S131072x1, .i32⟩ : BufTy).Contents (Elt F) → (⟨S131072x24, .f32⟩ : BufTy).Contents (Elt F) → (⟨S512000x24, .f32⟩ : BufTy).Contents (Elt F)) ]

set_option maxRecDepth 8192 in
set_option maxHeartbeats 4000000 in
/-- @main runs these operations and nothing else. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation works on buffers of the core. -/
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub ..,
   binary_bufs_sub .., ternary_bufs_sub .., nullary_bufs_sub .., nullary_bufs_sub .., unary_bufs_sub .., binary_bufs_sub .., unary_bufs_sub ..,
   unary_bufs_sub .., binary_bufs_sub .., binary_bufs_sub .., nullary_bufs_sub .., binary_bufs_sub .., binary_bufs_sub .., unary_bufs_sub ..,
   nullary_bufs_sub .., unary_bufs_sub .., ternary_bufs_sub .., reshape_bufs_sub .., nullary_bufs_sub .., unary_bufs_sub .., binary_bufs_sub ..,
   unary_bufs_sub .., nullary_bufs_sub .., unary_bufs_sub .., unary_bufs_sub .., binary_bufs_sub .., unary_bufs_sub .., binary_bufs_sub ..,
   binary_bufs_sub .., unary_bufs_sub .., unary_bufs_sub .., binary_bufs_sub .., nullary_bufs_sub .., unary_bufs_sub .., binary_bufs_sub ..,
   binary_bufs_sub .., unary_bufs_sub .., unary_bufs_sub .., binary_bufs_sub .., unary_bufs_sub .., unary_bufs_sub .., unary_bufs_sub ..,
   unary_bufs_sub .., binary_bufs_sub .., nullary_bufs_sub .., unary_bufs_sub .., binary_bufs_sub .., nullary_bufs_sub .., binary_bufs_sub ..,
   nullary_bufs_sub .., unary_bufs_sub .., binary_bufs_sub .., unary_bufs_sub .., unary_bufs_sub .., binary_bufs_sub .., unary_bufs_sub ..,
   nullary_bufs_sub .., binary_bufs_sub .., unary_bufs_sub .., unary_bufs_sub .., binary_bufs_sub .., nullary_bufs_sub .., nullary_bufs_sub ..,
   nullary_bufs_sub .., quaternary_bufs_sub .., quaternary_bufs_sub .., unary_bufs_sub .., nullary_bufs_sub .., unary_bufs_sub .., unary_bufs_sub ..,
   binary_bufs_sub .., unary_bufs_sub .., binary_bufs_sub .., binary_bufs_sub .., nullary_bufs_sub .., unary_bufs_sub .., binary_bufs_sub ..,
   unary_bufs_sub .., nullary_bufs_sub .., unary_bufs_sub .., binary_bufs_sub .., unary_bufs_sub .., reshape_bufs_sub .., reshape_bufs_sub ..,
   binary_bufs_sub .., unary_bufs_sub .., unary_bufs_sub .., binary_bufs_sub .., nullary_bufs_sub .., binary_bufs_sub .., nullary_bufs_sub ..,
   unary_bufs_sub .., binary_bufs_sub .., nullary_bufs_sub .., unary_bufs_sub .., binary_bufs_sub .., ternary_bufs_sub .., unary_bufs_sub ..,
   ternary_bufs_sub ..⟩

set_option maxRecDepth 8192 in
set_option maxHeartbeats 42800000 in
/-- The reference runs to an end from any memory with zero counters; its result buffer then holds `RefTerm.result` of the
    arguments, and the arguments are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v61).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl),
      (h c main_arg3).trans (by simp only [ops, TRef.binary, TRef.nullary, TRef.ternary, TRef.quaternary, TRef.unary, TRef.toBuf, TRef.ofBuf, cast_eq]; after_results_simp <;> rfl),
      (h c main_arg4).trans (by simp only [ops, TRef.binary, TRef.nullary, TRef.ternary, TRef.quaternary, TRef.unary, TRef.toBuf, TRef.ofBuf, cast_eq]; after_results_simp <;> rfl),
      (h c main_arg5).trans (by simp only [ops, TRef.binary, TRef.nullary, TRef.ternary, TRef.quaternary, TRef.unary, TRef.toBuf, TRef.ofBuf, cast_eq]; after_results_simp <;> rfl),
      (h c main_arg6).trans (by simp only [ops, TRef.binary, TRef.nullary, TRef.ternary, TRef.quaternary, TRef.unary, TRef.toBuf, TRef.ofBuf, cast_eq]; after_results_simp <;> rfl),
      (h c main_arg7).trans (by simp only [ops, TRef.binary, TRef.nullary, TRef.ternary, TRef.quaternary, TRef.unary, TRef.toBuf, TRef.ofBuf, cast_eq]; after_results_simp <;> rfl),
      (h c main_arg8).trans (by simp only [ops, TRef.binary, TRef.nullary, TRef.ternary, TRef.quaternary, TRef.unary, TRef.toBuf, TRef.ofBuf, cast_eq]; after_results_simp <;> rfl),
      (h c main_arg9).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.RefGather.lean ====
/- The reference's sampled rows: row `sampleRow b k` of them is the row of `y` that sample `k` of group `b` names. -/
module

public import proofs.«01_k».proof.Proof.RefTerm
public import proofs.«01_k».proof.Proof.Spec
public import Idealize.ShloMosaic.Lib.Pointwise
public import Idealize.ShloMosaic.Lib.Pipeline.Value
public import Idealize.ShloMosaic.Lib.ValueIdxCore

@[expose] public section

noncomputable section

namespace Cert.RefGather

open Cert.ReferenceIdeal Cert.ReferenceIdeal.Gen Cert.RefTerm Cert.Spec Idealize.ShloMosaic

variable (mp : IVec S1024x128 32) (nd : Fin 1024 → Fin 128 → Fin 500) (hm : ∀ b k, mp (ix2 b k) = BitVec.ofNat 32 (nd b k).val)

/-- A node number is a nonnegative word of at most 499. -/
theorem word : ∀ n : Fin 500, IntOp.cmpi CmpIPredicate.slt (BitVec.ofNat 32 n.val) 0#32 = 0#1
    ∧ IntOp.cmpi CmpIPredicate.sge (BitVec.ofNat 32 n.val) 0#32 = 1#1
    ∧ IntOp.cmpi CmpIPredicate.sle (BitVec.ofNat 32 n.val) 499#32 = 1#1
    ∧ (BitVec.ofNat 32 n.val).toInt.toNat = n.val := by
  decide +kernel

include hm in
/-- A node number inside the group needs no wrapping. -/
theorem wrapped_apply (b : Fin 1024) (k : Fin 128) (z : Fin 1) : wrapped mp (ix3 b k z) = BitVec.ofNat 32 (nd b k).val := by
  unfold wrapped
  simp only [pointwise]
  show Scalar.select (IntOp.cmpi CmpIPredicate.slt (mp (ix2 b k)) 0#32) (IntOp.addi (mp (ix2 b k)) 500#32) (mp (ix2 b k)) = _
  rw [hm, (word _).1]
  rfl

include hm in
/-- Every node number lies inside its group. -/
theorem inside_apply (b : Fin 1024) (k : Fin 128) : inside mp (ix2 b k) = 1#1 := by
  unfold inside
  simp only [pointwise]
  simp only [wrapped_apply mp nd hm, (word _).2.1, (word _).2.2.1]
  rfl

include hm in
/-- The gather takes the row that the sample names. -/
theorem gather_apply (y : FVec Ideal S1024x500x24 .f32) (b : Fin 1024) (k : Fin 128) (t : Fin 24) :
    Host.gather gather_S1024x500x24_S1024x128x1_S1024x128x24_2_1_0_0_1_2_1124 y (wrapped mp) (ix3 b k t)
      = y (ix3 b (nd b k) t) := by
  unfold Host.gather
  refine congrArg y (funext fun a => Fin.ext ?_)
  generalize hd : gather_S1024x500x24_S1024x128x1_S1024x128x24_2_1_0_0_1_2_1124 = d
  have e1 : d.operandBatchingDims = [0] := by subst hd; rfl
  have e2 : d.collapsedSliceDims = [1] := by subst hd; rfl
  have e3 : d.startIndexMap = [1] := by subst hd; rfl
  show d.start (ix3 b k t) (wrapped mp) a + d.batchCoord (ix3 b k t) a + d.offCoord (ix3 b k t) a = _
  match a with
  | ⟨0, h⟩ =>
    subst hd
    rw [GatherDims.start_batching _ _ _ _ (by rw [e1]; exact List.mem_singleton.mpr rfl),
      GatherDims.offCoord_eq_zero _ _ _ (fun h => ((GatherDims.mem_sKept _ _).mp h).2 (by rw [e1]; exact List.mem_singleton.mpr rfl))]
    simp only [Nat.zero_add, Nat.add_zero]
    unfold GatherDims.batchCoord
    rw [dif_pos (by rw [e1]; exact List.mem_singleton.mpr rfl)]
    rfl
  | ⟨1, h⟩ =>
    subst hd
    rw [GatherDims.batchCoord_eq_zero _ _ _ (fun h => by rw [e1] at h; simp at h),
      GatherDims.offCoord_eq_zero _ _ _ (fun h => ((GatherDims.mem_sKept _ _).mp h).1 (by rw [e2]; exact List.mem_singleton.mpr rfl))]
    simp only [Nat.add_zero]
    unfold GatherDims.start
    rw [dif_pos (by rw [e3]; exact List.mem_singleton.mpr rfl)]
    have hsi : ∀ q, gather_S1024x500x24_S1024x128x1_S1024x128x24_2_1_0_0_1_2_1124.siIdx (ix3 b k t)
        ⟨List.idxOf ⟨1, h⟩ gather_S1024x500x24_S1024x128x1_S1024x128x24_2_1_0_0_1_2_1124.startIndexMap, q⟩ = ix3 b k 0 := by
      intro q
      funext a
      refine Fin.ext ?_
      match a with
      | ⟨0, _⟩ => rfl
      | ⟨1, _⟩ => rfl
      | ⟨2, _⟩ => rfl
    rw [hsi, wrapped_apply mp nd hm, (word _).2.2.2]
    show min (nd b k).val (500 - 1) = (nd b k).val
    omega
  | ⟨2, h⟩ =>
    subst hd
    rw [GatherDims.batchCoord_eq_zero _ _ _ (fun h => by rw [e1] at h; simp at h)]
    unfold GatherDims.start
    rw [dif_neg (fun h => by rw [e3] at h; simp at h)]
    simp only [Nat.zero_add]
    unfold GatherDims.offCoord
    rw [dif_pos ((GatherDims.mem_sKept _ _).mpr (by rw [e1, e2]; simp))]
    rfl

include hm in
/-- Row `sampleRow b k` of the samples is the row of `y` that the sample names. -/
theorem sampled_apply (y : FVec Ideal S512000x24 .f32) (b : Fin 1024) (k : Fin 128) (t : Fin 24) :
    sampled y mp (ix2 (sampleRow b k) t) = y (ix2 (nodeRow b (nd b k)) t) := by
  unfold sampled
  rw [shapeCast_apply _ _ _ (ix3 b k t) (by
    rw [Shape.rowMajor_val_three, Shape.rowMajor_val_two]
    show (b.val * 128 + k.val) * 24 + t.val = (128 * b.val + k.val) * 24 + t.val
    omega)]
  simp only [pointwise]
  show Scalar.select (inside mp (ix2 b k)) _ _ = _
  rw [inside_apply mp nd hm, gather_apply mp nd hm]
  refine (shapeCast_apply _ _ _ (ix2 (nodeRow b (nd b k)) t) ?_)
  rw [Shape.rowMajor_val_three, Shape.rowMajor_val_two]
  show (500 * b.val + (nd b k).val) * 24 + t.val = (b.val * 500 + (nd b k).val) * 24 + t.val
  omega

end Cert.RefGather

end
-- ==== Proof.RefPick.lean ====
/- The reference's pick: of a row of two real entries, the position of the greater, the first of equals. -/
module

public import proofs.«01_k».proof.Proof.RefTerm
public import Idealize.ShloMosaic.Lib.Pointwise
public import Idealize.ShloMosaic.PureOps.Ideal.Laws
public import Idealize.ShloMosaic.PureOps.Reduce
public import Mathlib.Data.List.Sort

@[expose] public section

noncomputable section

namespace Cert.RefPick

open Cert.ReferenceIdeal Cert.ReferenceIdeal.Gen Cert.RefTerm Idealize.ShloMosaic

/-- A property of two positions only, kept from all positions in order, keeps those two. -/
theorem filter_two {N : ℕ} (P : Fin N → Prop) [DecidablePred P] (p q : Fin N) (hpq : p < q) (h : ∀ n, P n ↔ n = p ∨ n = q) :
    (List.finRange N).filter (fun n => decide (P n)) = [p, q] := by
  refine List.SortedLT.eq_of_mem_iff ?_ ?_ fun n => ?_
  · exact (List.Pairwise.filter _ (List.sortedLT_finRange N).pairwise).sortedLT
  · exact (List.pairwise_pair.mpr hpq).sortedLT
  · simp [List.mem_filter, h]

/-- The pick's fold over a row: first the entry at 0, then the entry at 1. -/
theorem pick_fold (s : FVec Ideal S131072x2 .f32) (R : Fin 131072) :
    pick s (ix1 R) = (reducer_argmax_f32_i32 (F := Ideal) (reducer_argmax_f32_i32 (F := Ideal) ((⊥ : EReal), 0#32) (s (ix2 R 0), 0#32))
      (s (ix2 R 1), 1#32)).2 := by
  unfold pick
  rw [Ideal.argReduce_eq_reduce2, Host.reduce2_eq_foldl_fiber]
  unfold Host.argReduceFiber
  have h2 : (S131072x2.rowMajor (ix2 R 0)).val = R.val * 2 + 0 := Shape.rowMajor_val_two (ix2 R 0)
  have h3 : (S131072x2.rowMajor (ix2 R 1)).val = R.val * 2 + 1 := Shape.rowMajor_val_two (ix2 R 1)
  rw [filter_two _ (S131072x2.rowMajor (ix2 R 0)) (S131072x2.rowMajor (ix2 R 1)) (by
    rw [Fin.lt_def, h2, h3]; omega) (fun n => by
    rw [Shape.ReducesTo.fiber_r2_a1]
    constructor
    · rintro ⟨k, hk⟩
      have hn := (Equiv.eq_symm_apply _).mp hk
      match k with
      | ⟨0, _⟩ => exact Or.inl hn.symm
      | ⟨1, _⟩ => exact Or.inr hn.symm
    · rintro (rfl | rfl)
      · exact ⟨0, ((Equiv.symm_apply_apply _ _)).symm⟩
      · exact ⟨1, ((Equiv.symm_apply_apply _ _)).symm⟩)]
  simp only [List.map_cons, List.map_nil, List.foldl_cons, List.foldl_nil, Equiv.symm_apply_apply]
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  rfl

/-- The position of the greater of two reals. -/
theorem pick_apply (s : FVec Ideal S131072x2 .f32) (R : Fin 131072) (sR : Fin 2 → ℝ) (hs : ∀ o, s (ix2 R o) = (sR o : EReal)) :
    pick s (ix1 R) = if sR 0 < sR 1 then 1#32 else 0#32 := by
  rw [pick_fold, hs, hs]
  have e1 : reducer_argmax_f32_i32 (F := Ideal) ((⊥ : EReal), 0#32) (((sR 0 : ℝ) : EReal), 0#32) = (((sR 0 : ℝ) : EReal), 0#32) := by
    unfold reducer_argmax_f32_i32
    simp [FloatOps.cmpf, Ideal.cmp, IntOp.ori, IntOp.andi, Scalar.select]
  rw [e1]
  unfold reducer_argmax_f32_i32
  simp [FloatOps.cmpf, Ideal.cmp, IntOp.ori, IntOp.andi, Scalar.select]
  have e2 : IntOp.cmpi CmpIPredicate.slt 0#32 1#32 = 1#1 := by decide
  rw [e2]
  rcases lt_trichotomy (sR 0) (sR 1) with h | h | h
  · simp [h, h.ne, not_lt.mpr h.le]
  · simp [h]
  · simp [h, h.ne', not_lt.mpr h.le]

end Cert.RefPick

end
-- ==== Proof.RefChoice.lean ====
/- The reference's choice for a sampled row: the straight-through choice is the one-hot of the greater noisy logit, and
   what a sampled entry becomes is the masked entry where the second is greater, zero elsewhere. -/
module

public import proofs.«01_k».proof.Proof.RefGather
public import proofs.«01_k».proof.Proof.RefPick

@[expose] public section

noncomputable section

namespace Cert.RefChoice

open Cert.ReferenceIdeal Cert.ReferenceIdeal.Gen Cert.RefTerm Cert.Spec Idealize.ShloMosaic

/-- The constant the programs print for a tenth is a positive real. -/
theorem tenth_real : ∃ τ : ℝ, 0 < τ ∧ Ideal.ofBits .f32 0x3DCCCCCD#32 = (τ : EReal) := by
  refine ⟨_, ?_, by simp [Ideal.ofBits, Ideal.ieee, -EReal.coe_mul]; rfl⟩
  norm_num

/-- A real over a positive real. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

section Soft
variable (z : FVec Ideal S131072x2 .f32) (R : Fin 131072) (zR : Fin 2 → ℝ) (hz : ∀ o, z (ix2 R o) = (zR o : EReal))

include hz in
/-- The exponentials of a real row. -/
theorem expo_apply (o : Fin 2) : expo z (ix2 R o) = ((Real.exp (zR o - max (zR 0) (zR 1)) : ℝ) : EReal) := by
  unfold expo
  simp only [pointwise]
  show Ideal.exp (z (ix2 R o) - max (Ideal.ofBits FTy.f32 4286578688#32)
    (Finset.fold max (Ideal.ofBits FTy.f32 4286578688#32) (fun k => z (ix2 R k)) Finset.univ)) = _
  have hb : Ideal.ofBits FTy.f32 4286578688#32 = (⊥ : EReal) := by simp [Ideal.ofBits, Ideal.ieee]
  have hf : Finset.fold max (⊥ : EReal) (fun k => z (ix2 R k)) Finset.univ = ((max (zR 0) (zR 1) : ℝ) : EReal) := by
    rw [show (Finset.univ : Finset (Fin 2)) = {0, 1} from rfl, Finset.fold_insert (by decide), Finset.fold_singleton, hz, hz,
      coe_max, max_eq_left (bot_le : (⊥ : EReal) ≤ _)]
  rw [hb, hf, hz, max_eq_right bot_le, ← EReal.coe_sub, Ideal.exp_coe]

include hz in
/-- The softmax of a real row is real and ordered as the row. -/
theorem soft_apply : ∃ sR : Fin 2 → ℝ, (∀ o, soft z (ix2 R o) = (sR o : EReal)) ∧ (sR 0 < sR 1 ↔ zR 0 < zR 1) := by
  have he := expo_apply z R zR hz
  generalize hM : max (zR 0) (zR 1) = M at he
  have hpos : 0 < Real.exp (zR 0 - M) + Real.exp (zR 1 - M) := add_pos (Real.exp_pos _) (Real.exp_pos _)
  refine ⟨fun o => Real.exp (zR o - M) / (Real.exp (zR 0 - M) + Real.exp (zR 1 - M)), fun o => ?_, ?_⟩
  · unfold soft
    simp only [pointwise]
    show Ideal.div (expo z (ix2 R o)) (0 + ∑ k : Fin 2, expo z (ix2 R k)) = _
    rw [Fin.sum_univ_two, he, he, he, zero_add, ← EReal.coe_add, div_coe _ _ hpos]
  · rw [div_lt_div_iff_of_pos_right hpos, Real.exp_lt_exp, sub_lt_sub_iff_right]

include hz in
/-- The one-hot of the pick of a real row's softmax. -/
theorem chosen_apply : chosen (soft z) (ix2 R 0) = (if zR 0 < zR 1 then (0 : EReal) else 1)
    ∧ chosen (soft z) (ix2 R 1) = (if zR 0 < zR 1 then (1 : EReal) else 0) := by
  obtain ⟨sR, hs, hiff⟩ := soft_apply z R zR hz
  have hp := RefPick.pick_apply (soft z) R sR hs
  have hh : ∀ o : Fin 2, RefTerm.hard (soft z) (ix2 R o)
      = FloatOps.uitofp (F := Ideal) FTy.f32 (IntOp.cmpi CmpIPredicate.eq (pick (soft z) (ix1 R)) (BitVec.ofNat 32 o.val)) := by
    intro o
    unfold RefTerm.hard
    simp only [pointwise]
    rfl
  have back : ∀ (h s : ℝ), (h : EReal) - (s : EReal) + (s : EReal) = (h : EReal) := fun h s => by
    rw [← EReal.coe_sub, ← EReal.coe_add, sub_add_cancel]
  have one : FloatOps.uitofp (F := Ideal) FTy.f32 1#1 = ((1 : ℝ) : EReal) := by
    simp [FloatOps.uitofp]
  have zero : FloatOps.uitofp (F := Ideal) FTy.f32 0#1 = ((0 : ℝ) : EReal) := by
    simp [FloatOps.uitofp]
  have hc : ∀ (o : Fin 2) (h : ℝ), RefTerm.hard (soft z) (ix2 R o) = (h : EReal) → chosen (soft z) (ix2 R o) = (h : EReal) := by
    intro o h e
    unfold chosen
    simp only [pointwise]
    rw [e, hs, back]
  by_cases h : zR 0 < zR 1
  · rw [if_pos h, if_pos h]
    rw [if_pos (hiff.mpr h)] at hp
    constructor
    · refine (hc 0 0 ?_).trans EReal.coe_zero
      rw [hh, hp]; exact zero
    · refine (hc 1 1 ?_).trans EReal.coe_one
      rw [hh, hp]; exact one
  · rw [if_neg h, if_neg h]
    rw [if_neg (fun q => h (hiff.mp q))] at hp
    constructor
    · refine (hc 0 1 ?_).trans EReal.coe_one
      rw [hh, hp]; exact one
    · refine (hc 1 0 ?_).trans EReal.coe_zero
      rw [hh, hp]; exact zero

end Soft

section Row
variable (y : FVec Ideal S512000x24 .f32) (mp : IVec S1024x128 32) (nd : Fin 1024 → Fin 128 → Fin 500)
  (hm : ∀ b k, mp (ix2 b k) = BitVec.ofNat 32 (nd b k).val) (u : FVec Ideal S131072x2 .f32) (w1 : FVec Ideal S24x32 .f32)
  (b1 : FVec Ideal S32 .f32) (w2 : FVec Ideal S32x2 .f32) (b2 : FVec Ideal S2 .f32) (p : Reals)
  (hp : Reads (fun r s => y (ix2 r s)) (fun r s => u (ix2 r s)) (fun r s => w1 (ix2 r s)) (fun r => b1 (ix1 r))
    (fun r s => w2 (ix2 r s)) (fun r => b2 (ix1 r)) p)

include hm hp in
/-- The hidden layer of a sampled row. -/
theorem hidden_apply (b : Fin 1024) (k : Fin 128) (j : Fin 32) :
    RefTerm.hidden y mp w1 b1 (ix2 (sampleRow b k) j) = ((hid (p.y (nodeRow b (nd b k))) p.w1 p.b1 j : ℝ) : EReal) := by
  unfold RefTerm.hidden
  simp only [pointwise]
  show max (0 + ∑ s, sampled y mp (ix2 (sampleRow b k) s) * w1 (ix2 s j) + b1 (ix1 j)) 0 = _
  have e1 : ∀ s, sampled y mp (ix2 (sampleRow b k) s) * w1 (ix2 s j) = ((p.y (nodeRow b (nd b k)) s * p.w1 s j : ℝ) : EReal) := by
    intro s
    rw [RefGather.sampled_apply mp nd hm, EReal.coe_mul]
    exact congrArg₂ (· * ·) (hp.y _ _) (hp.w1 _ _)
  have e2 : b1 (ix1 j) = (p.b1 j : EReal) := hp.b1 j
  rw [Finset.sum_congr rfl fun s _ => e1 s, ← coe_sum, e2, zero_add, ← EReal.coe_add]
  unfold hid
  rw [coe_max]
  rfl

include hm hp in
/-- The noisy logits over the temperature of a sampled row, reals ordered as the noisy logits. -/
theorem logits_apply (b : Fin 1024) (k : Fin 128) : ∃ zR : Fin 2 → ℝ,
    (∀ o, logits y mp u w1 b1 w2 b2 (ix2 (sampleRow b k) o) = (zR o : EReal))
      ∧ (zR 0 < zR 1 ↔ Chosen (p.y (nodeRow b (nd b k))) p.w1 p.b1 p.w2 p.b2 (p.u (sampleRow b k))) := by
  obtain ⟨τ, hτ, eτ⟩ := tenth_real
  refine ⟨fun o => (score (p.y (nodeRow b (nd b k))) p.w1 p.b1 p.w2 p.b2 o + noise (p.u (sampleRow b k) o)) / τ, fun o => ?_, ?_⟩
  · unfold logits
    simp only [pointwise]
    show Ideal.div (0 + ∑ j, RefTerm.hidden y mp w1 b1 (ix2 (sampleRow b k) j) * w2 (ix2 j o) + b2 (ix1 o)
      + -Ideal.log (-Ideal.log (u (ix2 (sampleRow b k) o)))) (Ideal.ofBits FTy.f32 0x3DCCCCCD#32) = _
    have e1 : ∀ j, RefTerm.hidden y mp w1 b1 (ix2 (sampleRow b k) j) * w2 (ix2 j o)
        = ((hid (p.y (nodeRow b (nd b k))) p.w1 p.b1 j * p.w2 j o : ℝ) : EReal) := by
      intro j
      rw [hidden_apply y mp nd hm u w1 b1 w2 b2 p hp, EReal.coe_mul]
      exact congrArg₂ (· * ·) rfl (hp.w2 _ _)
    have e2 : b2 (ix1 o) = (p.b2 o : EReal) := hp.b2 o
    have e3 : u (ix2 (sampleRow b k) o) = (p.u (sampleRow b k) o : EReal) := hp.u _ _
    have hlog : ∀ v : ℝ, 0 < v → Ideal.log (v : EReal) = (Real.log v : EReal) := fun v hv => by
      rw [Ideal.log_coe, if_neg (not_le.mpr hv)]
    have pos : 0 < -Real.log (p.u (sampleRow b k) o) := neg_pos.mpr (Real.log_neg (hp.u_pos _ _) (hp.u_lt _ _))
    rw [Finset.sum_congr rfl fun j _ => e1 j, ← coe_sum, e2, e3, hlog _ (hp.u_pos _ _), ← EReal.coe_neg, hlog _ pos,
      ← EReal.coe_neg, zero_add, ← EReal.coe_add, ← EReal.coe_add, eτ, div_coe _ _ hτ]
    rfl
  · exact div_lt_div_iff_of_pos_right hτ

/-- The two candidates of a sampled entry: zero, and the entry where its mask is kept. -/
theorem candidates_apply (mu : FVec Ideal S131072x24 .f32) (R : Fin 131072) (t : Fin 24) :
    candidates y mp mu (ix3 R t 0) = (0 : EReal)
      ∧ candidates y mp mu (ix3 R t 1)
        = (FloatOps.uitofp (F := Ideal) FTy.f32 (BitVec.ofBool (decide (tenth < mu (ix2 R t)))) : EReal) * sampled y mp (ix2 R t) := by
  unfold candidates joinPair
  constructor
  · rw [concatenate_pair_apply_left (t := S131072x24x2) (s₁ := S131072x24x1) (s₂ := S131072x24x1) 2 _ _ _ (ix3 R t 0) rfl
      (ix3 R t (0 : Fin 1)) (fun a => match a with
        | ⟨0, _⟩ => rfl
        | ⟨1, _⟩ => rfl
        | ⟨2, _⟩ => rfl)]
    simp only [pointwise]
  · rw [concatenate_pair_apply_right (t := S131072x24x2) (s₁ := S131072x24x1) (s₂ := S131072x24x1) 2 _ _ _ (ix3 R t 1) rfl rfl
      (ix3 R t (0 : Fin 1)) (fun a ha => match a with
        | ⟨0, _⟩ => rfl
        | ⟨1, _⟩ => rfl
        | ⟨2, _⟩ => absurd rfl ha) rfl]
    simp only [pointwise]
    rfl

open Classical in
include hm hp in
/-- What a sampled entry becomes: `y`'s entry where the sample is chosen and its mask kept, zero elsewhere. -/
theorem mixed_apply (mu : FVec Ideal S131072x24 .f32) (b : Fin 1024) (k : Fin 128) (t : Fin 24) :
    mixed (chosen (soft (logits y mp u w1 b1 w2 b2))) (candidates y mp mu) (ix2 (sampleRow b k) t)
      = if Chosen (p.y (nodeRow b (nd b k))) p.w1 p.b1 p.w2 p.b2 (p.u (sampleRow b k)) ∧ tenth < mu (ix2 (sampleRow b k) t)
        then (p.y (nodeRow b (nd b k)) t : EReal) else 0 := by
  obtain ⟨zR, hz, hiff⟩ := logits_apply y mp nd hm u w1 b1 w2 b2 p hp b k
  obtain ⟨h0, h1⟩ := chosen_apply _ _ zR hz
  obtain ⟨c0, c1⟩ := candidates_apply y mp mu (sampleRow b k) t
  generalize hg : chosen (soft (logits y mp u w1 b1 w2 b2)) = g at h0 h1 ⊢
  generalize hc : candidates y mp mu = c at c0 c1 ⊢
  unfold mixed
  simp only [pointwise]
  show 0 + ∑ o : Fin 2, g (ix2 (sampleRow b k) o) * c (ix3 (sampleRow b k) t o) = _
  rw [Fin.sum_univ_two, c0, c1, h0, h1, RefGather.sampled_apply mp nd hm, mul_zero, zero_add, zero_add]
  have e : y (ix2 (nodeRow b (nd b k)) t) = (p.y (nodeRow b (nd b k)) t : EReal) := hp.y _ _
  rw [e]
  by_cases hC : Chosen (p.y (nodeRow b (nd b k))) p.w1 p.b1 p.w2 p.b2 (p.u (sampleRow b k))
    <;> by_cases hM : tenth < mu (ix2 (sampleRow b k) t) <;> simp [hiff, hC, hM, FloatOps.uitofp]

end Row

end Cert.RefChoice

end
-- ==== Proof.RefScatter.lean ====
/- The reference's result: each sampled row is written to the row it names, and where several name one row, the last stays. -/
module

public import proofs.«01_k».proof.Proof.RefChoice
public import Idealize.ShloMosaic.Lib.Routing.OpsOne
public import Idealize.ShloMosaic.Lib.Routing.OpsPair

@[expose] public section

noncomputable section

namespace Cert.RefScatter

open Cert.ReferenceIdeal Cert.ReferenceIdeal.Gen Cert.RefTerm Cert.Spec Idealize.ShloMosaic

section Fold
variable {α : Type}

/-- Overwriting at no position leaves the value. -/
theorem foldl_none {ι : Type} (P : ι → Prop) [DecidablePred P] (v : ι → α) (l : List ι) (a : α) (h : ∀ n ∈ l, ¬ P n) :
    l.foldl (fun a n => if P n then v n else a) a = a := by
  induction l generalizing a with
  | nil => rfl
  | cons n l ih =>
    rw [List.foldl_cons, if_neg (h n List.mem_cons_self)]
    exact ih a fun i hi => h i (List.mem_cons_of_mem _ hi)

/-- Overwriting in order leaves what the last overwriting position holds. -/
theorem foldl_last {N : ℕ} (P : Fin N → Prop) [DecidablePred P] (v : Fin N → α) (a : α) (q : Fin N) (hq : P q)
    (hl : ∀ n, q < n → ¬ P n) : (List.finRange N).foldl (fun a n => if P n then v n else a) a = v q := by
  obtain ⟨l₁, l₂, e⟩ := List.append_of_mem (List.mem_finRange q)
  have hs := (List.sortedLT_finRange N).pairwise
  rw [e] at hs ⊢
  rw [List.foldl_append, List.foldl_cons, if_pos hq]
  exact foldl_none P v l₂ _ fun n hn => hl n ((List.pairwise_cons.mp (List.pairwise_append.mp hs).2.1).1 n hn)

end Fold

/-- A running sum of 500s that starts one late. -/
theorem sum_500 (b : ℕ) : ∑ i ∈ Finset.range (b + 1), (if i = 0 then 0#32 else 500#32) = BitVec.ofNat 32 (500 * b) := by
  induction b with
  | zero => rfl
  | succ b ih =>
    rw [Finset.sum_range_succ, ih, if_neg (Nat.succ_ne_zero b)]
    apply BitVec.eq_of_toNat_eq
    simp
    omega

variable (mp : IVec S1024x128 32) (nd : Fin 1024 → Fin 128 → Fin 500) (hm : ∀ b k, mp (ix2 b k) = BitVec.ofNat 32 (nd b k).val)
  (sz : IVec S1024 32) (hsz : ∀ b, sz (ix1 b) = 500#32)

include hsz in
/-- The sizes behind a leading zero. -/
theorem joinSizes_apply (z : IVec S1 32) (hz : z (ix1 0) = 0#32) (i : Fin 1025) :
    joinSizes (F := Ideal) z sz (ix1 i) = if i.val = 0 then 0#32 else 500#32 := by
  unfold joinSizes
  by_cases h : i.val = 0
  · rw [concatenate_pair_apply_left (t := S1025) (s₁ := S1) (s₂ := S1024) 0 _ _ _ (ix1 i) rfl (ix1 (0 : Fin 1)) (fun a => match a with
      | ⟨0, _⟩ => h.symm), if_pos h, hz]
  · rw [concatenate_pair_apply_right (t := S1025) (s₁ := S1) (s₂ := S1024) 0 _ _ _ (ix1 i) rfl rfl
      (ix1 (⟨i.val - 1, by omega⟩ : Fin 1024)) (fun a ha => match a with
      | ⟨0, _⟩ => absurd rfl ha) (by show i.val - 1 + 1 = i.val; omega), if_neg h, hsz]

include hsz in
/-- Group `b` starts at row `500 b`. -/
theorem starts_apply (b : Fin 1024) : starts (F := Ideal) sz (ix1 b) = BitVec.ofNat 32 (500 * b.val) := by
  unfold starts
  refine (Routing.cumsum_vec (N := 1024) (Nm1 := 1023) rfl _ _ ?_ _ _ b).trans ?_
  · rfl
  have e : ∀ i : Fin 1024, (if i ≤ b then (extractStridedSlice S1024 ![0]
      (joinSizes (F := Ideal) (broadcastInDim S1 ![] bcast_S_S1 (constantI S_ 32 0#32)) sz) slices_S1025_S1024_0) (ix1 i) else 0)
      = (fun n : ℕ => if n ≤ b.val then (if n = 0 then 0#32 else 500#32) else 0) i.val := by
    intro i
    have : (extractStridedSlice S1024 ![0]
      (joinSizes (F := Ideal) (broadcastInDim S1 ![] bcast_S_S1 (constantI S_ 32 0#32)) sz) slices_S1025_S1024_0) (ix1 i)
        = if i.val = 0 then 0#32 else 500#32 := by
      rw [← joinSizes_apply sz hsz (broadcastInDim S1 ![] bcast_S_S1 (constantI S_ 32 0#32)) rfl ⟨i.val, by omega⟩]
      simp only [pointwise]
      refine congrArg _ (funext fun a => match a with | ⟨0, _⟩ => Fin.ext ?_)
      show 0 + i.val = i.val
      omega
    rw [this]
    rfl
  refine (Finset.sum_congr rfl fun i _ => e i).trans ?_
  rw [Fin.sum_univ_eq_sum_range (fun n : ℕ => if n ≤ b.val then (if n = 0 then 0#32 else 500#32) else 0) 1024,
    ← Finset.sum_filter, ← sum_500]
  refine Finset.sum_congr (Finset.ext fun n => ?_) fun _ _ => rfl
  have := b.isLt
  simp only [Finset.mem_filter, Finset.mem_range]
  omega

include hm hsz in
/-- Sample `k` of group `b` is written to the row of the node it names. -/
theorem target_apply (b : Fin 1024) (k : Fin 128) :
    target (F := Ideal) mp sz (ix1 (sampleRow b k)) = BitVec.ofNat 32 (nodeRow b (nd b k)).val := by
  unfold target
  have e1 : shapeCast S131072 (broadcastInDim S1024x128 ![0] bcast_S1024_S1024x128_0 (starts (F := Ideal) sz)) shapeCasts_S1024x128_S131072
      (ix1 (sampleRow b k)) = BitVec.ofNat 32 (500 * b.val) := by
    rw [shapeCast_apply _ _ _ (ix2 b k) (by
      rw [Shape.rowMajor_val_two, Shape.rowMajor_val_one]
      show b.val * 128 + k.val = 128 * b.val + k.val
      omega)]
    simp only [pointwise]
    exact starts_apply sz hsz b
  have e2 : shapeCast S131072 mp shapeCasts_S1024x128_S131072 (ix1 (sampleRow b k)) = BitVec.ofNat 32 (nd b k).val := by
    rw [shapeCast_apply _ _ _ (ix2 b k) (by
      rw [Shape.rowMajor_val_two, Shape.rowMajor_val_one]
      show b.val * 128 + k.val = 128 * b.val + k.val
      omega), hm]
  show IntOp.addi _ _ = _
  rw [e1, e2]
  exact (BitVec.ofNat_add _ _).symm

/-- A row number is a nonnegative word. -/
theorem row_toInt (r : Fin 512000) : (BitVec.ofNat 32 r.val).toInt = r.val := by
  have := r.isLt
  rw [BitVec.toInt_eq_toNat_of_lt] <;> simp only [BitVec.toNat_ofNat] <;> omega

include hm hsz in
/-- The start index of a sampled row. -/
theorem targetCol_apply (b : Fin 1024) (k : Fin 128) :
    (targetCol (F := Ideal) mp sz (ix2 (sampleRow b k) 0)).toInt = (nodeRow b (nd b k)).val := by
  unfold targetCol
  simp only [pointwise]
  show (Scalar.select (IntOp.cmpi CmpIPredicate.slt (target (F := Ideal) mp sz (ix1 (sampleRow b k))) 0#32)
    (IntOp.addi (target (F := Ideal) mp sz (ix1 (sampleRow b k))) 512000#32) (target (F := Ideal) mp sz (ix1 (sampleRow b k)))).toInt = _
  rw [target_apply mp nd hm sz hsz]
  have h : IntOp.cmpi CmpIPredicate.slt (BitVec.ofNat 32 (nodeRow b (nd b k)).val) 0#32 = 0#1 := by
    have : (BitVec.ofNat 32 (nodeRow b (nd b k)).val).slt 0#32 = false := by
      rw [BitVec.slt, row_toInt]; simp
    simp [IntOp.cmpi, this]
  rw [h]
  exact row_toInt _

/-- Every entry of the samples is one of a sample of a group. -/
theorem exists_sample (j : S131072x24.Idx) : ∃ b k t, j = ix2 (sampleRow b k) t := by
  have h0 : (j 0).val < 131072 := (j 0).isLt
  refine ⟨⟨(j 0).val / 128, by omega⟩, ⟨(j 0).val % 128, by omega⟩, j 1, Shape.idx_ext₂ ?_ rfl⟩
  show (j 0).val = 128 * ((j 0).val / 128) + (j 0).val % 128
  omega

include hm hsz in
/-- Which updates land at an entry of the result: those of the same column whose sample is of the same group and names the node. -/
theorem lands_iff (b b' : Fin 1024) (k : Fin 128) (n : Fin 500) (t t' : Fin 24) :
    scatter_S512000x24_S131072x1_S131072x24_1_0_0_1.resultIdx? (ix2 (sampleRow b' k) t') (targetCol (F := Ideal) mp sz)
      = some (ix2 (nodeRow b n) t) ↔ (b' = b ∧ nd b' k = n) ∧ t' = t := by
  rw [Routing.resultIdx?_eq_some]
  have s0 : scatter_S512000x24_S131072x1_S131072x24_1_0_0_1.start (ix2 (sampleRow b' k) t') (targetCol (F := Ideal) mp sz) 0
      = (nodeRow b' (nd b' k)).val := by
    rw [← targetCol_apply mp nd hm sz hsz]
    unfold ScatterDims.start
    rw [dif_pos (show (0 : Fin 2) ∈ scatter_S512000x24_S131072x1_S131072x24_1_0_0_1.scatterDimsToOperandDims from List.mem_singleton.mpr rfl)]
    refine congrArg (fun i => (targetCol (F := Ideal) mp sz i).toInt) (funext fun a => Fin.ext ?_)
    match a with
    | ⟨0, _⟩ => rfl
    | ⟨1, _⟩ => rfl
  have w0 : scatter_S512000x24_S131072x1_S131072x24_1_0_0_1.window (ix2 (sampleRow b' k) t') 0 = 0 := rfl
  have s1 : scatter_S512000x24_S131072x1_S131072x24_1_0_0_1.start (ix2 (sampleRow b' k) t') (targetCol (F := Ideal) mp sz) 1 = 0 := rfl
  have w1 : scatter_S512000x24_S131072x1_S131072x24_1_0_0_1.window (ix2 (sampleRow b' k) t') 1 = t'.val := rfl
  constructor
  · intro h
    have h0 := h 0
    have h1 := h 1
    rw [s0, w0] at h0
    rw [s1, w1] at h1
    have h0' : ((500 * b'.val + (nd b' k).val : ℕ) : ℤ) + ((0 : ℕ) : ℤ) = ((500 * b.val + n.val : ℕ) : ℤ) := h0
    have h1' : (0 : ℤ) + (t'.val : ℤ) = (t.val : ℤ) := h1
    have := (nd b' k).isLt
    have := n.isLt
    refine ⟨⟨Fin.ext (by omega), Fin.ext (by omega)⟩, Fin.ext (by omega)⟩
  · rintro ⟨⟨rfl, rfl⟩, rfl⟩ a
    match a with
    | ⟨0, _⟩ => exact (congrArg₂ (· + ·) s0 (congrArg Nat.cast w0)).trans (add_zero _)
    | ⟨1, _⟩ => exact (congrArg₂ (· + ·) s1 (congrArg Nat.cast w1)).trans (zero_add _)

include hm hsz in
/-- The scatter at a node that no sample names. -/
theorem scatter_miss (x : FVec Ideal S512000x24 .f32) (v : FVec Ideal S131072x24 .f32) (b : Fin 1024) (n : Fin 500) (t : Fin 24)
    (h : ∀ k, nd b k ≠ n) :
    Host.scatter scatter_S512000x24_S131072x1_S131072x24_1_0_0_1 (fun _ b => b) x (targetCol (F := Ideal) mp sz) v (ix2 (nodeRow b n) t)
      = x (ix2 (nodeRow b n) t) := by
  rw [Routing.scatter_at]
  refine foldl_none _ _ _ _ fun i _ hi => ?_
  generalize S131072x24.rowMajor.symm i = j at hi
  obtain ⟨b', k, t', rfl⟩ := exists_sample j
  rw [lands_iff mp nd hm sz hsz] at hi
  obtain ⟨⟨rfl, e⟩, _⟩ := hi
  exact h k e

include hm hsz in
/-- The scatter at a node whose last sample is `k`. -/
theorem scatter_last (x : FVec Ideal S512000x24 .f32) (v : FVec Ideal S131072x24 .f32) (b : Fin 1024) (n : Fin 500) (t : Fin 24)
    (k : Fin 128) (h : nd b k = n) (hl : ∀ i, k < i → nd b i ≠ n) :
    Host.scatter scatter_S512000x24_S131072x1_S131072x24_1_0_0_1 (fun _ b => b) x (targetCol (F := Ideal) mp sz) v (ix2 (nodeRow b n) t)
      = v (ix2 (sampleRow b k) t) := by
  rw [Routing.scatter_at]
  refine (foldl_last _ (fun i => v (S131072x24.rowMajor.symm i)) _ (S131072x24.rowMajor (ix2 (sampleRow b k) t)) ?_ ?_).trans ?_
  · rw [Equiv.symm_apply_apply, lands_iff mp nd hm sz hsz]
    exact ⟨⟨rfl, h⟩, rfl⟩
  · intro i hlt hi
    obtain ⟨j, rfl⟩ := S131072x24.rowMajor.surjective i
    rw [Equiv.symm_apply_apply] at hi
    obtain ⟨b', k', t', rfl⟩ := exists_sample j
    rw [lands_iff mp nd hm sz hsz] at hi
    obtain ⟨⟨rfl, e⟩, rfl⟩ := hi
    rw [Fin.lt_def, Shape.rowMajor_val_two, Shape.rowMajor_val_two] at hlt
    have hlt' : (128 * b'.val + k.val) * 24 + t'.val < (128 * b'.val + k'.val) * 24 + t'.val := hlt
    exact hl k' (by rw [Fin.lt_def]; omega) e
  · rw [Equiv.symm_apply_apply]

include hm hsz in
/-- The reference's result. -/
theorem result_out (x y : FVec Ideal S512000x24 .f32) (mu : FVec Ideal S131072x24 .f32) (u : FVec Ideal S131072x2 .f32)
    (w1 : FVec Ideal S24x32 .f32) (b1 : FVec Ideal S32 .f32) (w2 : FVec Ideal S32x2 .f32) (b2 : FVec Ideal S2 .f32) (p : Reals)
    (hp : Reads (fun r s => y (ix2 r s)) (fun r s => u (ix2 r s)) (fun r s => w1 (ix2 r s)) (fun r => b1 (ix1 r))
      (fun r s => w2 (ix2 r s)) (fun r => b2 (ix1 r)) p) :
    Out p (fun b k => mp (ix2 b k)) (fun r s => x (ix2 r s)) (fun r s => mu (ix2 r s))
      (fun r s => result x y mp sz mu u w1 b1 w2 b2 (ix2 r s)) := by
  intro b n t
  have hnd : ∀ k, mp (ix2 b k) = BitVec.ofNat 32 n.val ↔ nd b k = n := fun k =>
    ⟨fun e => Fin.ext (ofNat_inj (nd b k).isLt n.isLt ((hm b k).symm.trans e)), fun e => by rw [hm, e]⟩
  refine ⟨fun h => ?_, fun k h => ?_⟩
  · exact scatter_miss mp nd hm sz hsz x _ b n t fun k e => h k ((hnd k).mpr e)
  · have hk := (hnd k).mp h.1
    refine (scatter_last mp nd hm sz hsz x _ b n t k hk fun i hi e => h.2 i hi ((hnd i).mpr e)).trans ?_
    rw [RefChoice.mixed_apply y mp nd hm u w1 b1 w2 b2 p hp mu b k t, hk]

end Cert.RefScatter

end
-- ==== Proof.Pre.lean ====
/- What the precondition says of the argument arrays: node numbers in range, full groups, uniform numbers strictly between
   zero and one, and finite entries. -/
module

public import proofs.«01_k».proof.Defs
public import proofs.«01_k».proof.Proof.Spec
public import Idealize.ShloMosaic.Lib.WordCmp
public import Idealize.ShloMosaic.Lib.Pointwise

@[expose] public section

noncomputable section

namespace Cert.Pre

open Cert.KernelIdeal Cert.Spec Idealize.ShloMosaic Idealize.ShloMosaic.TcCoe Idealize.SL.Sem

/-- The precondition's broadcasts of one number fit their shapes. -/
theorem facts : Cert.Pre_tame.Facts where
  bcast_S_S1024x128 := by decide
  bcast_S_S1024 := by decide
  bcast_S_S131072x2 := by decide
  bcast_S_S512000x24 := by decide
  bcast_S_S24x32 := by decide
  bcast_S_S32 := by decide
  bcast_S_S32x2 := by decide
  bcast_S_S2 := by decide

/-- A decision that reads one holds. -/
theorem of_ofBool {q : Prop} [Decidable q] (h : BitVec.ofBool (decide q) = 1#1) : q := by
  by_contra hq
  simp [hq] at h

/-- Of two bits whose conjunction is one, each is one. -/
theorem and_one : ∀ a b : BitVec 1, a &&& b = 1#1 → a = 1#1 ∧ b = 1#1 := by decide

/-- An entry whose size is below infinity is a real number. -/
theorem real_of (a : EReal) (h : Ideal.cmp .olt (max a (-a)) (Ideal.ofBits .f32 0x7F800000#32) = 1#1) : a = (a.toReal : EReal) := by
  have ht : Ideal.ofBits .f32 0x7F800000#32 = ⊤ := by simp [Ideal.ofBits, Ideal.ieee]
  have hl : max a (-a) < ⊤ := by
    rw [ht] at h
    exact of_ofBool h
  refine (EReal.coe_toReal ?_ ?_).symm
  · rintro rfl; simp at hl
  · rintro rfl; simp at hl

/-- An entry that lies strictly between zero and one is a real number that does. -/
theorem unit_of (a : EReal) (h0 : Ideal.cmp .ogt a (Ideal.ofBits .f32 0x00000000#32) = 1#1)
    (h1 : Ideal.cmp .olt a (Ideal.ofBits .f32 0x3F800000#32) = 1#1) : a = (a.toReal : EReal) ∧ 0 < a.toReal ∧ a.toReal < 1 := by
  have e0 : Ideal.ofBits .f32 0x00000000#32 = 0 := by simp [Ideal.ofBits, Ideal.ieee]
  have e1 : Ideal.ofBits .f32 0x3F800000#32 = 1 := by
    simp [Ideal.ofBits, Ideal.ieee]
    rw [← EReal.coe_mul]
    norm_num
  have l0 : 0 < a := by
    rw [e0] at h0
    exact of_ofBool h0
  have l1 : a < 1 := by
    rw [e1] at h1
    exact of_ofBool h1
  have e : a = (a.toReal : EReal) := (EReal.coe_toReal (ne_top_of_lt l1) (ne_bot_of_gt l0)).symm
  refine ⟨e, ?_, ?_⟩
  · rw [e] at l0; exact_mod_cast l0
  · rw [e] at l1; exact_mod_cast l1

/-- A word between zero and five hundred is the word of a number below five hundred. -/
theorem node_of (w : BitVec 32) (h0 : IntOp.cmpi .sge w 0#32 = 1#1) (h1 : IntOp.cmpi .slt w 500#32 = 1#1) :
    ∃ n : Fin 500, w = BitVec.ofNat 32 n.val := by
  have g0 : (0#32).toInt ≤ w.toInt := of_ofBool h0
  have g1 : w.toInt < (500#32).toInt := of_ofBool h1
  have c0 : (0#32).toInt = 0 := by decide
  have c1 : (500#32).toInt = 500 := by decide
  rw [c0] at g0
  rw [c1] at g1
  have hw := w.isLt
  rw [BitVec.toInt_eq_toNat_cond] at g0 g1
  refine ⟨⟨w.toNat, by split at g0 <;> split at g1 <;> omega⟩, ?_⟩
  exact (BitVec.ofNat_toNat 32 w ▸ by simp)

variable (m : (ℓ : Loc nD τ sig) → Buf (Elt Ideal) ℓ) (c : Dev nD)
variable (h : Cert.Pre_KernelIdeal_tame (hPre_tame := facts) m)
include h

/-- Every sample names a node of its group. -/
theorem nodes : ∃ nd : Fin 1024 → Fin 128 → Fin 500, ∀ b k,
    m ((c : Thread nD τ).loc main_arg2) (ix2 b k) = BitVec.ofNat 32 (nd b k).val := by
  have key : ∀ b k, ∃ n : Fin 500, m ((c : Thread nD τ).loc main_arg2) (ix2 b k) = BitVec.ofNat 32 n.val := fun b k => by
    have e := congrFun (h c).1 (ix2 b k)
    have e' := and_one _ _ e
    exact node_of _ e'.1 e'.2
  choose nd hnd using key
  exact ⟨nd, hnd⟩

/-- Every group is full. -/
theorem sizes (b : Fin 1024) : m ((c : Thread nD τ).loc main_arg3) (ix1 b) = 500#32 := by
  have e := congrFun (h c).2.1 (ix1 b)
  have e' : IntOp.cmpi .eq (m ((c : Thread nD τ).loc main_arg3) (ix1 b)) 500#32 = 1#1 := e
  rw [WordCmp.cmpi_eq_eq] at e'
  exact of_ofBool e'

/-- The float arguments the choice reads hold real numbers, the uniform ones strictly between zero and one. -/
theorem reads : ∃ p : Reals, Reads (fun r s => m ((c : Thread nD τ).loc main_arg1) (ix2 r s))
    (fun r s => m ((c : Thread nD τ).loc main_arg5) (ix2 r s)) (fun r s => m ((c : Thread nD τ).loc main_arg6) (ix2 r s))
    (fun r => m ((c : Thread nD τ).loc main_arg7) (ix1 r)) (fun r s => m ((c : Thread nD τ).loc main_arg8) (ix2 r s))
    (fun r => m ((c : Thread nD τ).loc main_arg9) (ix1 r)) p := by
  obtain ⟨_, _, hu, hy, hw1, hb1, hw2, hb2⟩ := h c
  have ku : ∀ r o, _ := fun (r : Fin 131072) (o : Fin 2) =>
    unit_of (m ((c : Thread nD τ).loc main_arg5) (ix2 r o)) (and_one _ _ (congrFun hu (ix2 r o))).1 (and_one _ _ (congrFun hu (ix2 r o))).2
  exact ⟨⟨fun r s => EReal.toReal (m ((c : Thread nD τ).loc main_arg1) (ix2 r s)),
      fun r s => EReal.toReal (m ((c : Thread nD τ).loc main_arg5) (ix2 r s)),
      fun r s => EReal.toReal (m ((c : Thread nD τ).loc main_arg6) (ix2 r s)),
      fun r => EReal.toReal (m ((c : Thread nD τ).loc main_arg7) (ix1 r)),
      fun r s => EReal.toReal (m ((c : Thread nD τ).loc main_arg8) (ix2 r s)),
      fun r => EReal.toReal (m ((c : Thread nD τ).loc main_arg9) (ix1 r))⟩,
    { y := fun r s => real_of _ (congrFun hy (ix2 r s))
      u := fun r o => (ku r o).1
      u_pos := fun r o => (ku r o).2.1
      u_lt := fun r o => (ku r o).2.2
      w1 := fun r s => real_of _ (congrFun hw1 (ix2 r s))
      b1 := fun r => real_of _ (congrFun hb1 (ix1 r))
      w2 := fun r s => real_of _ (congrFun hw2 (ix2 r s))
      b2 := fun r => real_of _ (congrFun hb2 (ix1 r)) }⟩

end Cert.Pre

end
-- ==== Proof.lean ====
/- The certificate: the kernel as compiled and its idealization run and leave their arguments alone, the idealization keeps the
   kernel's program, and at exact arithmetic the kernel computes what the reference does. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArray
public import proofs.«01_k».proof.Proof.RefRun
public import proofs.«01_k».proof.Proof.RefScatter
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Spec

/-- The reference runs to an end, keeps its arguments and leaves every semaphore counter at zero: it has no semaphore. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.RefRun.run (F := Ideal) m ρ)

/-- Every index of the result is a row and a column. -/
theorem exists_entry (j : Cert.KernelIdeal.S512000x24.Idx) : ∃ r t, j = ix2 r t :=
  ⟨j 0, j 1, Shape.idx_ext₂ rfl rfl⟩

/-- On arguments the precondition admits, the reference's result is the array the kernel's run leaves. -/
theorem same (m : (ℓ : Loc Cert.KernelIdeal.nD Cert.KernelIdeal.τ Cert.KernelIdeal.sig) → Buf (Elt Ideal) ℓ)
    (h : Cert.Pre_KernelIdeal_tame (hPre_tame := Cert.Pre.facts) m) (c : Dev Cert.KernelIdeal.nD) :
    Cert.RefTerm.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
    = (Cert.KernelIdeal.Gen.dats m 0 c).arrAt 10 Cert.KernelIdeal.cfg0.N := by
  obtain ⟨nd, hnd⟩ := Cert.Pre.nodes m c h
  obtain ⟨p, hp⟩ := Cert.Pre.reads m c h
  have hk := Cert.KernelArray.array_out m c p hp
  have hr := Cert.RefScatter.result_out _ nd hnd _ (Cert.Pre.sizes m c h)
    (m ((c.tc : Thread Cert.KernelIdeal.nD Cert.KernelIdeal.τ).loc Cert.KernelIdeal.main_arg0)) _
    (m ((c.tc : Thread Cert.KernelIdeal.nD Cert.KernelIdeal.τ).loc Cert.KernelIdeal.main_arg4)) _ _ _ _ _ p hp
  funext j
  obtain ⟨r, t, rfl⟩ := exists_entry j
  exact Out.unique hr hk r t

/-- At exact arithmetic, on arguments the precondition admits, the kernel and the reference return the same array. -/
theorem algebraic : Cert.algebraic_KernelIdeal_ReferenceIdeal_pre_tame (hKernelIdeal := Cert.KernelIdeal.Gen.facts)
    (hReferenceIdeal := Cert.ReferenceIdeal.Gen.facts) (hPre_tame := Cert.Pre.facts) := by
  intro m ρ m' ρ' hpre hagree
  refine ⟨fun c => (Cert.KernelIdeal.Gen.dats m 0 c).arrAt 10 Cert.KernelIdeal.cfg0.N, Cert.KernelIdeal.Value.run_blocks m ρ, ?_⟩
  refine (θ_run Cert.ReferenceIdeal.defs _ _).mono (fun r h c => ⟨(h c).1.trans ?_, (h c).2⟩) (Cert.RefRun.run (F := Ideal) m' ρ')
  obtain ⟨e0, e1, e2, e3, e4, e5, e6, e7, e8, e9⟩ := hagree c
  rw [e0, e1, e2, e3, e4, e5, e6, e7, e8, e9]
  exact same m hpre c

/-- Everything the certificate claims. -/
theorem claim : Cert.Claim :=
  ⟨Cert.Kernel.Gen.facts, Cert.KernelIdeal.Gen.facts, Cert.ReferenceIdeal.Gen.facts, Cert.Pre.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
